-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1x512x512 : Shape := ⟨4, ![64, 1, 512, 512]⟩
abbrev S4x16x262144 : Shape := ⟨3, ![4, 16, 262144]⟩
abbrev S4x1x128 : Shape := ⟨3, ![4, 1, 128]⟩
abbrev S1x16x262144 : Shape := ⟨3, ![1, 16, 262144]⟩
abbrev S1x1x128 : Shape := ⟨3, ![1, 1, 128]⟩
abbrev S256x256 : Shape := ⟨2, ![256, 256]⟩
abbrev S16x262144 : Shape := ⟨2, ![16, 262144]⟩
abbrev S16 : Shape := ⟨1, ![16]⟩
abbrev S16x1 : Shape := ⟨2, ![16, 1]⟩
abbrev S1x16x1 : Shape := ⟨3, ![1, 16, 1]⟩
abbrev S1x16x8192 : Shape := ⟨3, ![1, 16, 8192]⟩
abbrev S16x8192 : Shape := ⟨2, ![16, 8192]⟩
abbrev S16x1x8192 : Shape := ⟨3, ![16, 1, 8192]⟩
abbrev S16x16x8192 : Shape := ⟨3, ![16, 16, 8192]⟩
abbrev S256x8192 : Shape := ⟨2, ![256, 8192]⟩
abbrev S16x16 : Shape := ⟨2, ![16, 16]⟩
abbrev S1x128 : Shape := ⟨2, ![1, 128]⟩
abbrev S1x1 : Shape := ⟨2, ![1, 1]⟩
abbrev S1x16x16 : Shape := ⟨3, ![1, 16, 16]⟩
abbrev S1 : Shape := ⟨1, ![1]⟩
abbrev S1x1x1 : Shape := ⟨3, ![1, 1, 1]⟩
abbrev S4x1x16 : Shape := ⟨3, ![4, 1, 16]⟩
abbrev S4x16 : Shape := ⟨2, ![4, 16]⟩
abbrev S64 : Shape := ⟨1, ![64]⟩
abbrev S64x1x1 : Shape := ⟨3, ![64, 1, 1]⟩
abbrev S64x1x128 : Shape := ⟨3, ![64, 1, 128]⟩
abbrev S64x16x16384 : Shape := ⟨3, ![64, 16, 16384]⟩
abbrev S1x16x16384 : Shape := ⟨3, ![1, 16, 16384]⟩
abbrev S16x16384 : Shape := ⟨2, ![16, 16384]⟩
abbrev S_ : Shape := ⟨0, ![]⟩

abbrev nBuf : Space → Nat
  | .hbm => 18
  | .vmem => 13
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S4x16x262144, .f32⟩
  | .hbm, ⟨3, _⟩ => ⟨S4x1x128, .f32⟩
  | .hbm, ⟨4, _⟩ => ⟨S4x1x16, .f32⟩
  | .hbm, ⟨5, _⟩ => ⟨S4x16, .f32⟩
  | .hbm, ⟨6, _⟩ => ⟨S64, .f32⟩
  | .hbm, ⟨7, _⟩ => ⟨S64x1x1, .f32⟩
  | .hbm, ⟨8, _⟩ => ⟨S64x1x128, .f32⟩
  | .hbm, ⟨9, _⟩ => ⟨S64x16x16384, .f32⟩
  | .hbm, ⟨10, _⟩ => ⟨S64x16x16384, .f32⟩
  | .hbm, ⟨11, _⟩ => ⟨S64x1x128, .f32⟩
  | .hbm, ⟨12, _⟩ => ⟨S64x1x1, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1x16x262144, .f32⟩
  | .local _ .vmem, ⟨1, _⟩ => ⟨S1x16x262144, .f32⟩
  | .local _ .vmem, ⟨2, _⟩ => ⟨S1x1x128, .f32⟩
  | .local _ .vmem, ⟨3, _⟩ => ⟨S1x1x128, .f32⟩
  | .local _ .vmem, ⟨4, _⟩ => ⟨S256x256, .f32⟩
  | .local _ .vmem, ⟨5, _⟩ => ⟨S1x16x16384, .f32⟩
  | .local _ .vmem, ⟨6, _⟩ => ⟨S1x16x16384, .f32⟩
  | .local _ .vmem, ⟨7, _⟩ => ⟨S1x16x16384, .f32⟩
  | .local _ .vmem, ⟨8, _⟩ => ⟨S1x16x16384, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | _, _ => ⟨S64x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x262144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x16x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x16x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S64x1x512x512 : Shape := ⟨4, ![64, 1, 512, 512]⟩
abbrev S_ : Shape := ⟨0, ![]⟩
abbrev S64x262144 : Shape := ⟨2, ![64, 262144]⟩
abbrev S64 : Shape := ⟨1, ![64]⟩
abbrev S64x1 : Shape := ⟨2, ![64, 1]⟩
abbrev S64x256 : Shape := ⟨2, ![64, 256]⟩
abbrev S64x262144x1 : Shape := ⟨3, ![64, 262144, 1]⟩
abbrev S64x262144x2 : Shape := ⟨3, ![64, 262144, 2]⟩
abbrev S256 : Shape := ⟨1, ![256]⟩
abbrev S1x256 : Shape := ⟨2, ![1, 256]⟩
abbrev S64x255 : Shape := ⟨2, ![64, 255]⟩
abbrev S64x1x1 : Shape := ⟨3, ![64, 1, 1]⟩
abbrev S64x1x1x1 : Shape := ⟨4, ![64, 1, 1, 1]⟩

abbrev nBuf : Space → Nat
  | .hbm => 145
  | .vmem => 0
  | .smem => 0
  | _ => 0

abbrev hbmTy0_0 (i : Nat) : BufTy := match i % 128 with
  | 0 => ⟨S64x1x512x512, .f32⟩
  | 1 => ⟨S64x1x512x512, .f32⟩
  | 2 => ⟨S64x1x512x512, .f32⟩
  | 3 => ⟨S64x1x512x512, .f32⟩
  | 4 => ⟨S_, .f32⟩
  | 5 => ⟨S64x1x512x512, .f32⟩
  | 6 => ⟨S64x1x512x512, .f32⟩
  | 7 => ⟨S_, .f32⟩
  | 8 => ⟨S64x1x512x512, .f32⟩
  | 9 => ⟨S64x1x512x512, .f32⟩
  | 10 => ⟨S64x262144, .f32⟩
  | 11 => ⟨S_, .f32⟩
  | 12 => ⟨S64, .f32⟩
  | 13 => ⟨S64x1, .f32⟩
  | 14 => ⟨S_, .f32⟩
  | 15 => ⟨S64, .f32⟩
  | 16 => ⟨S64x1, .f32⟩
  | 17 => ⟨S64x1, .f32⟩
  | 18 => ⟨S_, .f32⟩
  | 19 => ⟨S64x1, .f32⟩
  | 20 => ⟨S64x1, .i1⟩
  | 21 => ⟨S_, .f32⟩
  | 22 => ⟨S64x1, .f32⟩
  | 23 => ⟨S64x1, .f32⟩
  | 24 => ⟨S_, .f32⟩
  | 25 => ⟨S_, .f32⟩
  | 26 => ⟨S64x1, .f32⟩
  | 27 => ⟨S64x1, .f32⟩
  | 28 => ⟨S64x262144, .f32⟩
  | 29 => ⟨S64x262144, .f32⟩
  | 30 => ⟨S64x262144, .f32⟩
  | 31 => ⟨S64x262144, .f32⟩
  | 32 => ⟨S64x262144, .i32⟩
  | 33 => ⟨S_, .i32⟩
  | 34 => ⟨S_, .i32⟩
  | 35 => ⟨S_, .i32⟩
  | 36 => ⟨S64x262144, .i32⟩
  | 37 => ⟨S64x262144, .i32⟩
  | 38 => ⟨S_, .i32⟩
  | 39 => ⟨S64x262144, .i32⟩
  | 40 => ⟨S64x262144, .i32⟩
  | 41 => ⟨S_, .f32⟩
  | 42 => ⟨S64x256, .f32⟩
  | 43 => ⟨S64, .i32⟩
  | 44 => ⟨S64x1, .i32⟩
  | 45 => ⟨S_, .i32⟩
  | 46 => ⟨S64x1, .i32⟩
  | 47 => ⟨S64x1, .i1⟩
  | 48 => ⟨S_, .i32⟩
  | 49 => ⟨S64x1, .i32⟩
  | 50 => ⟨S64x1, .i32⟩
  | 51 => ⟨S64x1, .i32⟩
  | 52 => ⟨S_, .i32⟩
  | 53 => ⟨S64x262144, .i32⟩
  | 54 => ⟨S64x262144, .i1⟩
  | 55 => ⟨S_, .i32⟩
  | 56 => ⟨S64x262144, .i32⟩
  | 57 => ⟨S64x262144, .i32⟩
  | 58 => ⟨S64x262144, .i32⟩
  | 59 => ⟨S64x262144, .i32⟩
  | 60 => ⟨S64x262144x1, .i32⟩
  | 61 => ⟨S64x262144x1, .i32⟩
  | 62 => ⟨S64x262144x2, .i32⟩
  | 63 => ⟨S_, .f32⟩
  | 64 => ⟨S64x262144, .f32⟩
  | 65 => ⟨S64x256, .f32⟩
  | 66 => ⟨S256, .f32⟩
  | 67 => ⟨S_, .f32⟩
  | 68 => ⟨S256, .f32⟩
  | 69 => ⟨S256, .f32⟩
  | 70 => ⟨S1x256, .f32⟩
  | 71 => ⟨S_, .f32⟩
  | 72 => ⟨S64x1, .f32⟩
  | 73 => ⟨S64x1, .f32⟩
  | 74 => ⟨S64x256, .f32⟩
  | 75 => ⟨S64x256, .f32⟩
  | 76 => ⟨S64x256, .f32⟩
  | 77 => ⟨S64x256, .f32⟩
  | 78 => ⟨S64x256, .f32⟩
  | 79 => ⟨S_, .f32⟩
  | 80 => ⟨S_, .f32⟩
  | 81 => ⟨S64x256, .f32⟩
  | 82 => ⟨S64x256, .f32⟩
  | 83 => ⟨S_, .f32⟩
  | 84 => ⟨S_, .f32⟩
  | 85 => ⟨S64x256, .f32⟩
  | 86 => ⟨S64x256, .f32⟩
  | 87 => ⟨S_, .f32⟩
  | 88 => ⟨S_, .f32⟩
  | 89 => ⟨S64x256, .f32⟩
  | 90 => ⟨S64x256, .f32⟩
  | 91 => ⟨S64x256, .f32⟩
  | 92 => ⟨S64x256, .f32⟩
  | 93 => ⟨S_, .f32⟩
  | 94 => ⟨S_, .f32⟩
  | 95 => ⟨S64x256, .f32⟩
  | 96 => ⟨S64x256, .f32⟩
  | 97 => ⟨S64x256, .f32⟩
  | 98 => ⟨S64x256, .f32⟩
  | 99 => ⟨S64x255, .f32⟩
  | 100 => ⟨S64x255, .f32⟩
  | 101 => ⟨S64x255, .f32⟩
  | 102 => ⟨S64x255, .f32⟩
  | 103 => ⟨S64x255, .f32⟩
  | 104 => ⟨S64x255, .f32⟩
  | 105 => ⟨S64x255, .f32⟩
  | 106 => ⟨S64x255, .f32⟩
  | 107 => ⟨S64x255, .i32⟩
  | 108 => ⟨S_, .f32⟩
  | 109 => ⟨S_, .i32⟩
  | 110 => ⟨S64, .f32⟩
  | 111 => ⟨S64, .i32⟩
  | 112 => ⟨S64x1, .i32⟩
  | 113 => ⟨S_, .i32⟩
  | 114 => ⟨S64x1, .i32⟩
  | 115 => ⟨S64x1, .i1⟩
  | 116 => ⟨S_, .i32⟩
  | 117 => ⟨S64x1, .i32⟩
  | 118 => ⟨S64x1, .i32⟩
  | 119 => ⟨S64x1, .i32⟩
  | 120 => ⟨S64x1x1, .i32⟩
  | 121 => ⟨S64x1, .f32⟩
  | 122 => ⟨S64, .f32⟩
  | 123 => ⟨S64x1x1x1, .f32⟩
  | 124 => ⟨S64x1x512x512, .f32⟩
  | 125 => ⟨S64x1x512x512, .i1⟩
  | 126 => ⟨S64x1x512x512, .f32⟩
  | 127 => ⟨S64x1x512x512, .f32⟩
  | _ => ⟨S64x1x512x512, .f32⟩

abbrev hbmTy0_1 (i : Nat) : BufTy := match i % 128 with
  | 0 => ⟨S_, .f32⟩
  | 1 => ⟨S64x1, .f32⟩
  | 2 => ⟨S64x1x512x512, .f32⟩
  | 3 => ⟨S_, .f32⟩
  | 4 => ⟨S64x1, .f32⟩
  | 5 => ⟨S64x1, .f32⟩
  | 6 => ⟨S_, .f32⟩
  | 7 => ⟨S64x1, .f32⟩
  | 8 => ⟨S64x1, .f32⟩
  | 9 => ⟨S_, .f32⟩
  | 10 => ⟨S64x1, .f32⟩
  | 11 => ⟨S64x1, .f32⟩
  | 12 => ⟨S64x1, .f32⟩
  | 13 => ⟨S_, .f32⟩
  | 14 => ⟨S_, .f32⟩
  | 15 => ⟨S_, .f32⟩
  | 16 => ⟨S_, .f32⟩
  | _ => ⟨S64x1x512x512, .f32⟩

abbrev hbmTy (i : Nat) : BufTy := match i / 128 with
  | 0 => hbmTy0_0 i
  | 1 => hbmTy0_1 i
  | _ => ⟨S64x1x512x512, .f32⟩

abbrev bufTy : (tb : Table) → Fin (tcTables nBuf tb) → BufTy
  | .hbm, ⟨i, _⟩ => hbmTy i
  | _, _ => ⟨S64x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_c_6 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_8 : Ref sig .tc := ⟨.hbm, 45, rfl⟩
abbrev main_v26 : Ref sig .tc := ⟨.hbm, 46, rfl⟩
abbrev main_v27 : Ref sig .tc := ⟨.hbm, 47, rfl⟩
abbrev main_c_9 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_10 : Ref sig .tc := ⟨.hbm, 52, rfl⟩
abbrev main_v31 : Ref sig .tc := ⟨.hbm, 53, rfl⟩
abbrev main_v32 : Ref sig .tc := ⟨.hbm, 54, rfl⟩
abbrev main_c_11 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_12 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_13 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_14 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call2_call0_cst : Ref sig .tc := ⟨.hbm, 79, rfl⟩
abbrev main_call2_call0_v0 : Ref sig .tc := ⟨.hbm, 80, rfl⟩
abbrev main_v53 : Ref sig .tc := ⟨.hbm, 81, rfl⟩
abbrev main_v54 : Ref sig .tc := ⟨.hbm, 82, rfl⟩
abbrev main_call3_call0_cst : Ref sig .tc := ⟨.hbm, 83, rfl⟩
abbrev main_call3_call0_v0 : Ref sig .tc := ⟨.hbm, 84, rfl⟩
abbrev main_v55 : Ref sig .tc := ⟨.hbm, 85, rfl⟩
abbrev main_v56 : Ref sig .tc := ⟨.hbm, 86, rfl⟩
abbrev main_call4_call0_cst : Ref sig .tc := ⟨.hbm, 87, rfl⟩
abbrev main_call4_call0_v0 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_call5_call0_cst : Ref sig .tc := ⟨.hbm, 93, rfl⟩
abbrev main_call5_call0_v0 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_call6_v0 : Ref sig .tc := ⟨.hbm, 107, rfl⟩
abbrev main_call6_cst : Ref sig .tc := ⟨.hbm, 108, rfl⟩
abbrev main_call6_c : Ref sig .tc := ⟨.hbm, 109, rfl⟩
abbrev main_call6_v1_0 : Ref sig .tc := ⟨.hbm, 110, rfl⟩
abbrev main_v73 : Ref sig .tc := ⟨.hbm, 111, rfl⟩
abbrev main_v74 : Ref sig .tc := ⟨.hbm, 112, rfl⟩
abbrev main_call7_c : Ref sig .tc := ⟨.hbm, 113, rfl⟩
abbrev main_call7_v0 : Ref sig .tc := ⟨.hbm, 114, rfl⟩
abbrev main_call7_v1 : Ref sig .tc := ⟨.hbm, 115, rfl⟩
abbrev main_call7_c_0 : Ref sig .tc := ⟨.hbm, 116, rfl⟩
abbrev main_call7_v2 : Ref sig .tc := ⟨.hbm, 117, rfl⟩
abbrev main_call7_v3 : Ref sig .tc := ⟨.hbm, 118, rfl⟩
abbrev main_call7_v4 : Ref sig .tc := ⟨.hbm, 119, rfl⟩
abbrev main_call7_v5 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_15 : Ref sig .tc := ⟨.hbm, 128, rfl⟩
abbrev main_v82 : Ref sig .tc := ⟨.hbm, 129, rfl⟩
abbrev main_v83 : Ref sig .tc := ⟨.hbm, 130, rfl⟩
abbrev main_cst_16 : Ref sig .tc := ⟨.hbm, 131, rfl⟩
abbrev main_v84 : Ref sig .tc := ⟨.hbm, 132, rfl⟩
abbrev main_v85 : Ref sig .tc := ⟨.hbm, 133, rfl⟩
abbrev main_cst_17 : Ref sig .tc := ⟨.hbm, 134, rfl⟩
abbrev main_v86 : Ref sig .tc := ⟨.hbm, 135, rfl⟩
abbrev main_v87 : Ref sig .tc := ⟨.hbm, 136, rfl⟩
abbrev main_cst_18 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_19 : Ref sig .tc := ⟨.hbm, 141, rfl⟩
abbrev main_v91 : Ref sig .tc := ⟨.hbm, 142, rfl⟩
abbrev main_cst_20 : Ref sig .tc := ⟨.hbm, 143, rfl⟩
abbrev main_v92 : Ref sig .tc := ⟨.hbm, 144, rfl⟩

abbrev nD : Nat := 1
abbrev τ : Topo := Topo.v7x

variable {F : FTy → Type} [FloatOps F]
-- ==== Proof.RefRun.lean ====
/- The run of the reference program: its operations in order, cut into five stages, and what every stage leaves in the
   buffers the next ones read. No kernel is launched, so the program is the fold of its operations. -/
module

public import proofs.«01_k».proof.ReferenceIdeal
public import proofs.«01_k».proof.Proof.Gen.ReferenceIdeal
public import Idealize.ShloMosaic.PureOps.Ideal
public import Idealize.ShloMosaic.Lib.StableHlo.Run
public import Idealize.ShloMosaic.Lib.StableHlo.RunRead
public import Idealize.ShloMosaic.Lib.StableHlo.RunHlo
public import Idealize.ShloMosaic.Lib.Claim
public import Idealize.ShloMosaic.Lib.Quiescent

@[expose] public section

noncomputable section

namespace Cert.Proof.Ref

open Cert.ReferenceIdeal Cert.ReferenceIdeal.Gen
open Idealize.ShloMosaic Idealize.ShloMosaic.TcCoe Idealize.ShloMosaic.StableHlo Idealize.SL.Sem

/-! ## The stages as functions of tensors -/

section Stages

variable {F : FTy → Type} [FloatOps F]

/-- The logistic function of every logit, spelt out. -/
def prob (x : FVec F S64x1x512x512 .f32) : FVec F S64x1x512x512 .f32 :=
  Host.divf (broadcastInDim S64x1x512x512 ![] bcast_S_S64x1x512x512 (constant S_ .f32 0x3F800000#32))
    (addf (broadcastInDim S64x1x512x512 ![] bcast_S_S64x1x512x512 (constant S_ .f32 0x3F800000#32)) (Host.exp (Host.negf x)))

/-- One row of probabilities per sample. -/
def rows (p : FVec F S64x1x512x512 .f32) : FVec F S64x262144 .f32 := shapeCast S64x262144 p shapeCasts_S64x1x512x512_S64x262144

/-- Each row's least probability. -/
def lo (p : FVec F S64x262144 .f32) : FVec F S64x1 .f32 :=
  broadcastInDim S64x1 ![0] bcast_S64_S64x1_0 (Host.reduce FloatOps.minimumf p (constant S_ .f32 0x7F800000#32) reducesTo_S64x262144_S64_d1 h_S_)

/-- Each row's greatest probability less its least. -/
def wid (p : FVec F S64x262144 .f32) : FVec F S64x1 .f32 :=
  subf (broadcastInDim S64x1 ![0] bcast_S64_S64x1_0
    (Host.reduce FloatOps.maximumf p (constant S_ .f32 0xFF800000#32) reducesTo_S64x262144_S64_d1 h_S_)) (lo p)

/-- Bins per unit of probability, and 0 where the row is constant. -/
def perBin (w : FVec F S64x1 .f32) : FVec F S64x1 .f32 :=
  select (cmpf .ogt w (broadcastInDim S64x1 ![] bcast_S_S64x1 (constant S_ .f32 0x00000000#32)))
    (Host.divf (broadcastInDim S64x1 ![] bcast_S_S64x1 (constant S_ .f32 0x43800000#32)) w)
    (broadcastInDim S64x1 ![] bcast_S_S64x1 (constant S_ .f32 0x00000000#32))

/-- Every pixel's bin, clipped to the 256 bins. -/
def bins (p : FVec F S64x262144 .f32) : IVec S64x262144 32 :=
  minsi (broadcastInDim S64x262144 ![] bcast_S_S64x262144 (constantI S_ 32 255#32))
    (maxsi (broadcastInDim S64x262144 ![] bcast_S_S64x262144 (constantI S_ 32 0#32))
      (fptosi 32 (mulf (subf p (broadcastInDim S64x262144 ![0, 1] bcast_S64x1_S64x262144_0_1 (lo p)))
        (broadcastInDim S64x262144 ![0, 1] bcast_S64x1_S64x262144_0_1 (perBin (wid p))))))

/-- Where every pixel's one is added: its row and its bin, a negative number counted from the end. -/
def places (b : IVec S64x262144 32) : IVec S64x262144x2 32 :=
  concatenate S64x262144x2 2
    [⟨S64x262144x1, broadcastInDim S64x262144x1 ![0, 1] bcast_S64x262144_S64x262144x1_0_1
        (broadcastInDim S64x262144 ![0, 1] bcast_S64x1_S64x262144_0_1
          (select (cmpi .slt (broadcastInDim S64x1 ![0] bcast_S64_S64x1_0 (iotaInDim S64 32 0))
              (broadcastInDim S64x1 ![] bcast_S_S64x1 (constantI S_ 32 0#32)))
            (addi (broadcastInDim S64x1 ![0] bcast_S64_S64x1_0 (iotaInDim S64 32 0))
              (broadcastInDim S64x1 ![] bcast_S_S64x1 (constantI S_ 32 64#32)))
            (broadcastInDim S64x1 ![0] bcast_S64_S64x1_0 (iotaInDim S64 32 0))))⟩,
      ⟨S64x262144x1, broadcastInDim S64x262144x1 ![0, 1] bcast_S64x262144_S64x262144x1_0_1
        (select (cmpi .slt b (broadcastInDim S64x262144 ![] bcast_S_S64x262144 (constantI S_ 32 0#32)))
          (addi b (broadcastInDim S64x262144 ![] bcast_S_S64x262144 (constantI S_ 32 256#32))) b)⟩]
    concatenates_S64x262144x1_S64x262144x1_S64x262144x2_d2

/-- Each row's histogram. -/
def hist (b : IVec S64x262144 32) : FVec F S64x256 .f32 :=
  Host.scatterAdd scatter_S64x256_S64x262144x2_S64x262144_n_01_01_2
    (broadcastInDim S64x256 ![] bcast_S_S64x256 (constant S_ .f32 0x00000000#32)) (places b)
    (broadcastInDim S64x262144 ![] bcast_S_S64x262144 (constant S_ .f32 0x3F800000#32))

/-- Each row's bin centers. -/
def mids (l w : FVec F S64x1 .f32) : FVec F S64x256 .f32 :=
  addf (broadcastInDim S64x256 ![0, 1] bcast_S64x1_S64x256_0_1 l)
    (mulf (broadcastInDim S64x256 ![0, 1] bcast_S1x256_S64x256_0_1 (broadcastInDim S1x256 ![1] bcast_S256_S1x256_1
        (addf (sitofp .f32 (iotaInDim S256 32 0)) (broadcastInDim S256 ![] bcast_S_S256 (constant S_ .f32 0x3F000000#32)))))
      (broadcastInDim S64x256 ![0, 1] bcast_S64x1_S64x256_0_1
        (Host.divf w (broadcastInDim S64x1 ![] bcast_S_S64x1 (constant S_ .f32 0x43800000#32)))))

/-- The running sum along every row. -/
def cum (h : FVec F S64x256 .f32) : FVec F S64x256 .f32 :=
  Host.reduceWindowAdd ![1, 256] ![1, 1] ![0, 255] ![0, 0] h (broadcastInDim S_ ![] bcast_S_S_ (constant S_ .f32 0x00000000#32))
    reduceWindows_S64x256_S64x256_w1s1p0_0_w256s1p255_0 h_S_

/-- The between-class variance of every split. -/
def vari (h c : FVec F S64x256 .f32) : FVec F S64x255 .f32 :=
  mulf
    (mulf (extractStridedSlice S64x255 ![0, 0] (cum h) slices_S64x256_S64x255_0_0)
      (extractStridedSlice S64x255 ![0, 1] (Host.reverse [1] (cum (Host.reverse [1] h))) slices_S64x256_S64x255_0_1))
    (mulf
      (subf (extractStridedSlice S64x255 ![0, 0] (Host.divf (cum (mulf h c)) (cum h)) slices_S64x256_S64x255_0_0)
        (extractStridedSlice S64x255 ![0, 1]
          (Host.reverse [1] (Host.divf (cum (Host.reverse [1] (mulf h c))) (cum (Host.reverse [1] h)))) slices_S64x256_S64x255_0_1))
      (subf (extractStridedSlice S64x255 ![0, 0] (Host.divf (cum (mulf h c)) (cum h)) slices_S64x256_S64x255_0_0)
        (extractStridedSlice S64x255 ![0, 1]
          (Host.reverse [1] (Host.divf (cum (Host.reverse [1] (mulf h c))) (cum (Host.reverse [1] h)))) slices_S64x256_S64x255_0_1)))

/-- The split of greatest variance, the first one of several. -/
def best (v : FVec F S64x255 .f32) : IVec S64 32 := fun j =>
  (Host.argReduce reducer_argmax_f32_i32 v (iotaInDim S64x255 32 1) (constant S_ .f32 0xFF800000#32) (constantI S_ 32 0#32)
    reducesTo_S64x255_S64_d1 h_S_ j).2

/-- The best split as a column of one number per row. -/
def bestCol (b : IVec S64 32) : IVec S64x1 32 := broadcastInDim S64x1 ![0] bcast_S64_S64x1_0 b

/-- Each row's threshold: the center of its best bin. -/
def thr (c : FVec F S64x256 .f32) (b : IVec S64 32) : FVec F S64 .f32 :=
  shapeCast S64 (Host.gather gather_S64x256_S64x1x1_S64x1_n_1_0_0_1_2_11 c
    (shapeCast S64x1x1 (select (cmpi .slt (bestCol b) (broadcastInDim S64x1 ![] bcast_S_S64x1 (constantI S_ 32 0#32)))
      (addi (bestCol b) (broadcastInDim S64x1 ![] bcast_S_S64x1 (constantI S_ 32 256#32))) (bestCol b)) shapeCasts_S64x1_S64x1x1))
    shapeCasts_S64x1_S64

/-- One where a pixel's probability is above its sample's threshold, zero elsewhere. -/
def mask (p : FVec F S64x1x512x512 .f32) (t : FVec F S64 .f32) : FVec F S64x1x512x512 .f32 :=
  uitofp .f32 (cmpf .ogt p (broadcastInDim S64x1x512x512 ![0, 1, 2, 3] bcast_S64x1x1x1_S64x1x512x512_0_1_2_3
    (broadcastInDim S64x1x1x1 ![0] bcast_S64_S64x1x1x1_0 t)))

/-- Each sample's sum. -/
def total (x : FVec F S64x1x512x512 .f32) : FVec F S64x1 .f32 :=
  Host.reduceAdd x (constant S_ .f32 0x00000000#32) reducesTo_S64x1x512x512_S64x1_d3_2 h_S_

/-- The mean over the samples of the smoothed overlap divided by the smoothed union. -/
def score (k y : FVec F S64x1x512x512 .f32) : FVec F S_ .f32 :=
  Host.divf (Host.reduceAdd
    (Host.divf (addf (total (mulf k y)) (broadcastInDim S64x1 ![] bcast_S_S64x1 (constant S_ .f32 0x3F800000#32)))
      (addf (subf (total (addf k y)) (total (mulf k y))) (broadcastInDim S64x1 ![] bcast_S_S64x1 (constant S_ .f32 0x3F800000#32))))
    (constant S_ .f32 0x00000000#32) reducesTo_S64x1_S_d0_1 h_S_) (constant S_ .f32 0x42800000#32)

/-- Every sample's threshold, from the logits. -/
def thresholds (x : FVec F S64x1x512x512 .f32) : FVec F S64 .f32 :=
  thr (mids (lo (rows (prob x))) (wid (rows (prob x))))
    (best (vari (hist (bins (rows (prob x)))) (mids (lo (rows (prob x))) (wid (rows (prob x))))))

/-- The reference's result from its two arguments. -/
def result (x y : FVec F S64x1x512x512 .f32) : FVec F S_ .f32 := score (mask (prob x) (thresholds x)) y

end Stages

section Run

variable {F : FTy → Type} [FloatOps F]

/-! ## The operations -/

/-- The operations of @main, in order: from the logits to every pixel's bin. -/
abbrev opsA : List (HloOp τ sig (Elt F)) :=
  [ unary main_arg0 main_v0 (Host.negf : (⟨S64x1x512x512, .f32⟩ : BufTy).Contents (Elt F) → (⟨S64x1x512x512, .f32⟩ : BufTy).Contents (Elt F)),
    unary main_v0 main_v1 (Host.exp : (⟨S64x1x512x512, .f32⟩ : BufTy).Contents (Elt F) → (⟨S64x1x512x512, .f32⟩ : BufTy).Contents (Elt F)),
    nullary main_cst (constant S_ .f32 0x3F800000#32),
    unary main_cst main_v2 (broadcastInDim S64x1x512x512 ![] bcast_S_S64x1x512x512 : (⟨S_, .f32⟩ : BufTy).Contents (Elt F) → (⟨S64x1x512x512, .f32⟩ : BufTy).Contents (Elt F)),
    binary main_v2 main_v1 main_v3 (addf : (⟨S64x1x512x512, .f32⟩ : BufTy).Contents (Elt F) → (⟨S64x1x512x512, .f32⟩ : BufTy).Contents (Elt F) → (⟨S64x1x512x512, .f32⟩ : BufTy).Contents (Elt F)),
    nullary main_cst_0 (constant S_ .f32 0x3F800000#32),
    unary main_cst_0 main_v4 (broadcastInDim S64x1x512x512 ![] bcast_S_S64x1x512x512 : (⟨S_, .f32⟩ : BufTy).Contents (Elt F) → (⟨S64x1x512x512, .f32⟩ : BufTy).Contents (Elt F)),
    binary main_v4 main_v3 main_v5 (Host.divf : (⟨S64x1x512x512, .f32⟩ : BufTy).Contents (Elt F) → (⟨S64x1x512x512, .f32⟩ : BufTy).Contents (Elt F) → (⟨S64x1x512x512, .f32⟩ : BufTy).Contents (Elt F)),
    reshape main_v5 main_v6 (rfl : (.f32 : EltTy) = .f32) shapeCasts_S64x1x512x512_S64x262144,
    nullary main_cst_1 (constant S_ .f32 0x7F800000#32),
    binary main_v6 main_cst_1 main_v7 ((fun x v => Host.reduce FloatOps.minimumf x v reducesTo_S64x262144_S64_d1 h_S_) : (⟨S64x262144, .f32⟩ : BufTy).Contents (Elt F) → (⟨S_, .f32⟩ : BufTy).Contents (Elt F) → (⟨S64, .f32⟩ : BufTy).Contents (Elt F)),
    unary main_v7 main_v8 (broadcastInDim S64x1 ![0] bcast_S64_S64x1_0 : (⟨S64, .f32⟩ : BufTy).Contents (Elt F) → (⟨S64x1, .f32⟩ : BufTy).Contents (Elt F)),
    nullary main_cst_2 (constant S_ .f32 0xFF800000#32),
    binary main_v6 main_cst_2 main_v9 ((fun x v => Host.reduce FloatOps.maximumf x v reducesTo_S64x262144_S64_d1 h_S_) : (⟨S64x262144, .f32⟩ : BufTy).Contents (Elt F) → (⟨S_, .f32⟩ : BufTy).Contents (Elt F) → (⟨S64, .f32⟩ : BufTy).Contents (Elt F)),
    unary main_v9 main_v10 (broadcastInDim S64x1 ![0] bcast_S64_S64x1_0 : (⟨S64, .f32⟩ : BufTy).Contents (Elt F) → (⟨S64x1, .f32⟩ : BufTy).Contents (Elt F)),
    binary main_v10 main_v8 main_v11 (subf : (⟨S64x1, .f32⟩ : BufTy).Contents (Elt F) → (⟨S64x1, .f32⟩ : BufTy).Contents (Elt F) → (⟨S64x1, .f32⟩ : BufTy).Contents (Elt F)),
    nullary main_cst_3 (constant S_ .f32 0x00000000#32),
    unary main_cst_3 main_v12 (broadcastInDim S64x1 ![] bcast_S_S64x1 : (⟨S_, .f32⟩ : BufTy).Contents (Elt F) → (⟨S64x1, .f32⟩ : BufTy).Contents (Elt F)),
    binary main_v11 main_v12 main_v13 (cmpf .ogt : (⟨S64x1, .f32⟩ : BufTy).Contents (Elt F) → (⟨S64x1, .f32⟩ : BufTy).Contents (Elt F) → (⟨S64x1, .i1⟩ : BufTy).Contents (Elt F)),
    nullary main_cst_4 (constant S_ .f32 0x43800000#32),
    unary main_cst_4 main_v14 (broadcastInDim S64x1 ![] bcast_S_S64x1 : (⟨S_, .f32⟩ : BufTy).Contents (Elt F) → (⟨S64x1, .f32⟩ : BufTy).Contents (Elt F)),
    binary main_v14 main_v11 main_v15 (Host.divf : (⟨S64x1, .f32⟩ : BufTy).Contents (Elt F) → (⟨S64x1, .f32⟩ : BufTy).Contents (Elt F) → (⟨S64x1, .f32⟩ : BufTy).Contents (Elt F)),
    nullary main_cst_5 (constant S_ .f32 0x00000000#32),
    unary main_cst_5 main_call0_v0 id,
    unary main_call0_v0 main_call0_v1 (broadcastInDim S64x1 ![] bcast_S_S64x1),
    ternary main_v13 main_v15 main_call0_v1 main_v16 select,
    unary main_v8 main_v17 (broadcastInDim S64x262144 ![0, 1] bcast_S64x1_S64x262144_0_1 : (⟨S64x1, .f32⟩ : BufTy).Contents (Elt F) → (⟨S64x262144, .f32⟩ : BufTy).Contents (Elt F)),
    binary main_v6 main_v17 main_v18 (subf : (⟨S64x262144, .f32⟩ : BufTy).Contents (Elt F) → (⟨S64x262144, .f32⟩ : BufTy).Contents (Elt F) → (⟨S64x262144, .f32⟩ : BufTy).Contents (Elt F)),
    unary main_v16 main_v19 (broadcastInDim S64x262144 ![0, 1] bcast_S64x1_S64x262144_0_1 : (⟨S64x1, .f32⟩ : BufTy).Contents (Elt F) → (⟨S64x262144, .f32⟩ : BufTy).Contents (Elt F)),
    binary main_v18 main_v19 main_v20 (mulf : (⟨S64x262144, .f32⟩ : BufTy).Contents (Elt F) → (⟨S64x262144, .f32⟩ : BufTy).Contents (Elt F) → (⟨S64x262144, .f32⟩ : BufTy).Contents (Elt F)),
    unary main_v20 main_v21 (fptosi 32 : (⟨S64x262144, .f32⟩ : BufTy).Contents (Elt F) → (⟨S64x262144, .i32⟩ : BufTy).Contents (Elt F)),
    nullary main_c (constantI S_ 32 0#32),
    nullary main_c_6 (constantI S_ 32 255#32),
    unary main_c main_call1_v0 id,
    unary main_call1_v0 main_call1_v1 (broadcastInDim S64x262144 ![] bcast_S_S64x262144),
    binary main_call1_v1 main_v21 main_call1_v2 maxsi,
    unary main_c_6 main_call1_v3 id,
    unary main_call1_v3 main_call1_v4 (broadcastInDim S64x262144 ![] bcast_S_S64x262144),
    binary main_call1_v4 main_call1_v2 main_v22 minsi ]

/-- The operations of @main, in order: the histogram and the bin centers. -/
abbrev opsB : List (HloOp τ sig (Elt F)) :=
  [ nullary main_cst_7 (constant S_ .f32 0x00000000#32),
    unary main_cst_7 main_v23 (broadcastInDim S64x256 ![] bcast_S_S64x256 : (⟨S_, .f32⟩ : BufTy).Contents (Elt F) → (⟨S64x256, .f32⟩ : BufTy).Contents (Elt F)),
    nullary main_v24 (iotaInDim S64 32 0),
    unary main_v24 main_v25 (broadcastInDim S64x1 ![0] bcast_S64_S64x1_0 : (⟨S64, .i32⟩ : BufTy).Contents (Elt F) → (⟨S64x1, .i32⟩ : BufTy).Contents (Elt F)),
    nullary main_c_8 (constantI S_ 32 0#32),
    unary main_c_8 main_v26 (broadcastInDim S64x1 ![] bcast_S_S64x1 : (⟨S_, .i32⟩ : BufTy).Contents (Elt F) → (⟨S64x1, .i32⟩ : BufTy).Contents (Elt F)),
    binary main_v25 main_v26 main_v27 (cmpi .slt : (⟨S64x1, .i32⟩ : BufTy).Contents (Elt F) → (⟨S64x1, .i32⟩ : BufTy).Contents (Elt F) → (⟨S64x1, .i1⟩ : BufTy).Contents (Elt F)),
    nullary main_c_9 (constantI S_ 32 64#32),
    unary main_c_9 main_v28 (broadcastInDim S64x1 ![] bcast_S_S64x1 : (⟨S_, .i32⟩ : BufTy).Contents (Elt F) → (⟨S64x1, .i32⟩ : BufTy).Contents (Elt F)),
    binary main_v25 main_v28 main_v29 (addi : (⟨S64x1, .i32⟩ : BufTy).Contents (Elt F) → (⟨S64x1, .i32⟩ : BufTy).Contents (Elt F) → (⟨S64x1, .i32⟩ : BufTy).Contents (Elt F)),
    ternary main_v27 main_v29 main_v25 main_v30 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_10 (constantI S_ 32 0#32),
    unary main_c_10 main_v31 (broadcastInDim S64x262144 ![] bcast_S_S64x262144 : (⟨S_, .i32⟩ : BufTy).Contents (Elt F) → (⟨S64x262144, .i32⟩ : BufTy).Contents (Elt F)),
    binary main_v22 main_v31 main_v32 (cmpi .slt : (⟨S64x262144, .i32⟩ : BufTy).Contents (Elt F) → (⟨S64x262144, .i32⟩ : BufTy).Contents (Elt F) → (⟨S64x262144, .i1⟩ : BufTy).Contents (Elt F)),
    nullary main_c_11 (constantI S_ 32 256#32),
    unary main_c_11 main_v33 (broadcastInDim S64x262144 ![] bcast_S_S64x262144 : (⟨S_, .i32⟩ : BufTy).Contents (Elt F) → (⟨S64x262144, .i32⟩ : BufTy).Contents (Elt F)),
    binary main_v22 main_v33 main_v34 (addi : (⟨S64x262144, .i32⟩ : BufTy).Contents (Elt F) → (⟨S64x262144, .i32⟩ : BufTy).Contents (Elt F) → (⟨S64x262144, .i32⟩ : BufTy).Contents (Elt F)),
    ternary main_v32 main_v34 main_v22 main_v35 (select : (⟨S64x262144, .i1⟩ : BufTy).Contents (Elt F) → (⟨S64x262144, .i32⟩ : BufTy).Contents (Elt F) → (⟨S64x262144, .i32⟩ : BufTy).Contents (Elt F) → (⟨S64x262144, .i32⟩ : BufTy).Contents (Elt F)),
    unary main_v30 main_v36 (broadcastInDim S64x262144 ![0, 1] bcast_S64x1_S64x262144_0_1 : (⟨S64x1, .i32⟩ : BufTy).Contents (Elt F) → (⟨S64x262144, .i32⟩ : BufTy).Contents (Elt F)),
    unary main_v36 main_v37 (broadcastInDim S64x262144x1 ![0, 1] bcast_S64x262144_S64x262144x1_0_1 : (⟨S64x262144, .i32⟩ : BufTy).Contents (Elt F) → (⟨S64x262144x1, .i32⟩ : BufTy).Contents (Elt F)),
    unary main_v35 main_v38 (broadcastInDim S64x262144x1 ![0, 1] bcast_S64x262144_S64x262144x1_0_1 : (⟨S64x262144, .i32⟩ : BufTy).Contents (Elt F) → (⟨S64x262144x1, .i32⟩ : BufTy).Contents (Elt F)),
    binary main_v37 main_v38 main_v39 ((fun a b => concatenate S64x262144x2 2 [⟨S64x262144x1, a⟩, ⟨S64x262144x1, b⟩] concatenates_S64x262144x1_S64x262144x1_S64x262144x2_d2) : (⟨S64x262144x1, .i32⟩ : BufTy).Contents (Elt F) → (⟨S64x262144x1, .i32⟩ : BufTy).Contents (Elt F) → (⟨S64x262144x2, .i32⟩ : BufTy).Contents (Elt F)),
    nullary main_cst_12 (constant S_ .f32 0x3F800000#32),
    unary main_cst_12 main_v40 (broadcastInDim S64x262144 ![] bcast_S_S64x262144 : (⟨S_, .f32⟩ : BufTy).Contents (Elt F) → (⟨S64x262144, .f32⟩ : BufTy).Contents (Elt F)),
    ternary main_v23 main_v39 main_v40 main_v41 ((fun x i u => Host.scatterAdd scatter_S64x256_S64x262144x2_S64x262144_n_01_01_2 x i u) : (⟨S64x256, .f32⟩ : BufTy).Contents (Elt F) → (⟨S64x262144x2, .i32⟩ : BufTy).Contents (Elt F) → (⟨S64x262144, .f32⟩ : BufTy).Contents (Elt F) → (⟨S64x256, .f32⟩ : BufTy).Contents (Elt F)),
    nullary main_v42 (sitofp .f32 (iotaInDim S256 32 0)),
    nullary main_cst_13 (constant S_ .f32 0x3F000000#32),
    unary main_cst_13 main_v43 (broadcastInDim S256 ![] bcast_S_S256 : (⟨S_, .f32⟩ : BufTy).Contents (Elt F) → (⟨S256, .f32⟩ : BufTy).Contents (Elt F)),
    binary main_v42 main_v43 main_v44 (addf : (⟨S256, .f32⟩ : BufTy).Contents (Elt F) → (⟨S256, .f32⟩ : BufTy).Contents (Elt F) → (⟨S256, .f32⟩ : BufTy).Contents (Elt F)),
    unary main_v44 main_v45 (broadcastInDim S1x256 ![1] bcast_S256_S1x256_1 : (⟨S256, .f32⟩ : BufTy).Contents (Elt F) → (⟨S1x256, .f32⟩ : BufTy).Contents (Elt F)),
    nullary main_cst_14 (constant S_ .f32 0x43800000#32),
    unary main_cst_14 main_v46 (broadcastInDim S64x1 ![] bcast_S_S64x1 : (⟨S_, .f32⟩ : BufTy).Contents (Elt F) → (⟨S64x1, .f32⟩ : BufTy).Contents (Elt F)),
    binary main_v11 main_v46 main_v47 (Host.divf : (⟨S64x1, .f32⟩ : BufTy).Contents (Elt F) → (⟨S64x1, .f32⟩ : BufTy).Contents (Elt F) → (⟨S64x1, .f32⟩ : BufTy).Contents (Elt F)),
    unary main_v45 main_v48 (broadcastInDim S64x256 ![0, 1] bcast_S1x256_S64x256_0_1 : (⟨S1x256, .f32⟩ : BufTy).Contents (Elt F) → (⟨S64x256, .f32⟩ : BufTy).Contents (Elt F)),
    unary main_v47 main_v49 (broadcastInDim S64x256 ![0, 1] bcast_S64x1_S64x256_0_1 : (⟨S64x1, .f32⟩ : BufTy).Contents (Elt F) → (⟨S64x256, .f32⟩ : BufTy).Contents (Elt F)),
    binary main_v48 main_v49 main_v50 (mulf : (⟨S64x256, .f32⟩ : BufTy).Contents (Elt F) → (⟨S64x256, .f32⟩ : BufTy).Contents (Elt F) → (⟨S64x256, .f32⟩ : BufTy).Contents (Elt F)),
    unary main_v8 main_v51 (broadcastInDim S64x256 ![0, 1] bcast_S64x1_S64x256_0_1 : (⟨S64x1, .f32⟩ : BufTy).Contents (Elt F) → (⟨S64x256, .f32⟩ : BufTy).Contents (Elt F)),
    binary main_v51 main_v50 main_v52 (addf : (⟨S64x256, .f32⟩ : BufTy).Contents (Elt F) → (⟨S64x256, .f32⟩ : BufTy).Contents (Elt F) → (⟨S64x256, .f32⟩ : BufTy).Contents (Elt F)) ]

/-- The operations of @main, in order: the running sums and the between-class variance. -/
abbrev opsC : List (HloOp τ sig (Elt F)) :=
  [ nullary main_call2_call0_cst (constant S_ .f32 0x00000000#32),
    unary main_call2_call0_cst main_call2_call0_v0 (broadcastInDim S_ ![] bcast_S_S_),
    binary main_v41 main_call2_call0_v0 main_v53 (fun x v => Host.reduceWindowAdd ![1, 256] ![1, 1] ![0, 255] ![0, 0] x v reduceWindows_S64x256_S64x256_w1s1p0_0_w256s1p255_0 h_S_),
    unary main_v41 main_v54 (Host.reverse [1] : (⟨S64x256, .f32⟩ : BufTy).Contents (Elt F) → (⟨S64x256, .f32⟩ : BufTy).Contents (Elt F)),
    nullary main_call3_call0_cst (constant S_ .f32 0x00000000#32),
    unary main_call3_call0_cst main_call3_call0_v0 (broadcastInDim S_ ![] bcast_S_S_),
    binary main_v54 main_call3_call0_v0 main_v55 (fun x v => Host.reduceWindowAdd ![1, 256] ![1, 1] ![0, 255] ![0, 0] x v reduceWindows_S64x256_S64x256_w1s1p0_0_w256s1p255_0 h_S_),
    binary main_v41 main_v52 main_v56 (mulf : (⟨S64x256, .f32⟩ : BufTy).Contents (Elt F) → (⟨S64x256, .f32⟩ : BufTy).Contents (Elt F) → (⟨S64x256, .f32⟩ : BufTy).Contents (Elt F)),
    nullary main_call4_call0_cst (constant S_ .f32 0x00000000#32),
    unary main_call4_call0_cst main_call4_call0_v0 (broadcastInDim S_ ![] bcast_S_S_),
    binary main_v56 main_call4_call0_v0 main_v57 (fun x v => Host.reduceWindowAdd ![1, 256] ![1, 1] ![0, 255] ![0, 0] x v reduceWindows_S64x256_S64x256_w1s1p0_0_w256s1p255_0 h_S_),
    binary main_v57 main_v53 main_v58 (Host.divf : (⟨S64x256, .f32⟩ : BufTy).Contents (Elt F) → (⟨S64x256, .f32⟩ : BufTy).Contents (Elt F) → (⟨S64x256, .f32⟩ : BufTy).Contents (Elt F)),
    binary main_v41 main_v52 main_v59 (mulf : (⟨S64x256, .f32⟩ : BufTy).Contents (Elt F) → (⟨S64x256, .f32⟩ : BufTy).Contents (Elt F) → (⟨S64x256, .f32⟩ : BufTy).Contents (Elt F)),
    unary main_v59 main_v60 (Host.reverse [1] : (⟨S64x256, .f32⟩ : BufTy).Contents (Elt F) → (⟨S64x256, .f32⟩ : BufTy).Contents (Elt F)),
    nullary main_call5_call0_cst (constant S_ .f32 0x00000000#32),
    unary main_call5_call0_cst main_call5_call0_v0 (broadcastInDim S_ ![] bcast_S_S_),
    binary main_v60 main_call5_call0_v0 main_v61 (fun x v => Host.reduceWindowAdd ![1, 256] ![1, 1] ![0, 255] ![0, 0] x v reduceWindows_S64x256_S64x256_w1s1p0_0_w256s1p255_0 h_S_),
    binary main_v61 main_v55 main_v62 (Host.divf : (⟨S64x256, .f32⟩ : BufTy).Contents (Elt F) → (⟨S64x256, .f32⟩ : BufTy).Contents (Elt F) → (⟨S64x256, .f32⟩ : BufTy).Contents (Elt F)),
    unary main_v62 main_v63 (Host.reverse [1] : (⟨S64x256, .f32⟩ : BufTy).Contents (Elt F) → (⟨S64x256, .f32⟩ : BufTy).Contents (Elt F)),
    unary main_v55 main_v64 (Host.reverse [1] : (⟨S64x256, .f32⟩ : BufTy).Contents (Elt F) → (⟨S64x256, .f32⟩ : BufTy).Contents (Elt F)),
    unary main_v53 main_v65 ((extractStridedSlice S64x255 ![0, 0] · slices_S64x256_S64x255_0_0) : (⟨S64x256, .f32⟩ : BufTy).Contents (Elt F) → (⟨S64x255, .f32⟩ : BufTy).Contents (Elt F)),
    unary main_v64 main_v66 ((extractStridedSlice S64x255 ![0, 1] · slices_S64x256_S64x255_0_1) : (⟨S64x256, .f32⟩ : BufTy).Contents (Elt F) → (⟨S64x255, .f32⟩ : BufTy).Contents (Elt F)),
    binary main_v65 main_v66 main_v67 (mulf : (⟨S64x255, .f32⟩ : BufTy).Contents (Elt F) → (⟨S64x255, .f32⟩ : BufTy).Contents (Elt F) → (⟨S64x255, .f32⟩ : BufTy).Contents (Elt F)),
    unary main_v58 main_v68 ((extractStridedSlice S64x255 ![0, 0] · slices_S64x256_S64x255_0_0) : (⟨S64x256, .f32⟩ : BufTy).Contents (Elt F) → (⟨S64x255, .f32⟩ : BufTy).Contents (Elt F)),
    unary main_v63 main_v69 ((extractStridedSlice S64x255 ![0, 1] · slices_S64x256_S64x255_0_1) : (⟨S64x256, .f32⟩ : BufTy).Contents (Elt F) → (⟨S64x255, .f32⟩ : BufTy).Contents (Elt F)),
    binary main_v68 main_v69 main_v70 (subf : (⟨S64x255, .f32⟩ : BufTy).Contents (Elt F) → (⟨S64x255, .f32⟩ : BufTy).Contents (Elt F) → (⟨S64x255, .f32⟩ : BufTy).Contents (Elt F)),
    binary main_v70 main_v70 main_v71 (mulf : (⟨S64x255, .f32⟩ : BufTy).Contents (Elt F) → (⟨S64x255, .f32⟩ : BufTy).Contents (Elt F) → (⟨S64x255, .f32⟩ : BufTy).Contents (Elt F)),
    binary main_v67 main_v71 main_v72 (mulf : (⟨S64x255, .f32⟩ : BufTy).Contents (Elt F) → (⟨S64x255, .f32⟩ : BufTy).Contents (Elt F) → (⟨S64x255, .f32⟩ : BufTy).Contents (Elt F)) ]

/-- The operations of @main, in order: the best bin and its center. -/
abbrev opsD : List (HloOp τ sig (Elt F)) :=
  [ nullary main_call6_v0 (iotaInDim S64x255 32 1),
    nullary main_call6_cst (constant S_ .f32 0xFF800000#32),
    nullary main_call6_c (constantI S_ 32 0#32),
    quaternary main_v72 main_call6_v0 main_call6_cst main_call6_c main_call6_v1_0 (fun x y u v j => (Host.argReduce reducer_argmax_f32_i32 x y u v reducesTo_S64x255_S64_d1 h_S_ j).1),
    quaternary main_v72 main_call6_v0 main_call6_cst main_call6_c main_v73 (fun x y u v j => (Host.argReduce reducer_argmax_f32_i32 x y u v reducesTo_S64x255_S64_d1 h_S_ j).2),
    unary main_v73 main_v74 (broadcastInDim S64x1 ![0] bcast_S64_S64x1_0 : (⟨S64, .i32⟩ : BufTy).Contents (Elt F) → (⟨S64x1, .i32⟩ : BufTy).Contents (Elt F)),
    nullary main_call7_c (constantI S_ 32 0#32),
    unary main_call7_c main_call7_v0 (broadcastInDim S64x1 ![] bcast_S_S64x1),
    binary main_v74 main_call7_v0 main_call7_v1 (cmpi .slt),
    nullary main_call7_c_0 (constantI S_ 32 256#32),
    unary main_call7_c_0 main_call7_v2 (broadcastInDim S64x1 ![] bcast_S_S64x1),
    binary main_v74 main_call7_v2 main_call7_v3 addi,
    ternary main_call7_v1 main_call7_v3 main_v74 main_call7_v4 select,
    reshape main_call7_v4 main_call7_v5 (rfl : (.i32 : EltTy) = .i32) shapeCasts_S64x1_S64x1x1,
    binary main_v52 main_call7_v5 main_v75 (fun x i => Host.gather gather_S64x256_S64x1x1_S64x1_n_1_0_0_1_2_11 x i),
    reshape main_v75 main_v76 (rfl : (.f32 : EltTy) = .f32) shapeCasts_S64x1_S64 ]

/-- The operations of @main, in order: the mask, the overlap and the mean. -/
abbrev opsE : List (HloOp τ sig (Elt F)) :=
  [ unary main_v76 main_v77 (broadcastInDim S64x1x1x1 ![0] bcast_S64_S64x1x1x1_0 : (⟨S64, .f32⟩ : BufTy).Contents (Elt F) → (⟨S64x1x1x1, .f32⟩ : BufTy).Contents (Elt F)),
    unary main_v77 main_v78 (broadcastInDim S64x1x512x512 ![0, 1, 2, 3] bcast_S64x1x1x1_S64x1x512x512_0_1_2_3 : (⟨S64x1x1x1, .f32⟩ : BufTy).Contents (Elt F) → (⟨S64x1x512x512, .f32⟩ : BufTy).Contents (Elt F)),
    binary main_v5 main_v78 main_v79 (cmpf .ogt : (⟨S64x1x512x512, .f32⟩ : BufTy).Contents (Elt F) → (⟨S64x1x512x512, .f32⟩ : BufTy).Contents (Elt F) → (⟨S64x1x512x512, .i1⟩ : BufTy).Contents (Elt F)),
    unary main_v79 main_v80 (uitofp .f32 : (⟨S64x1x512x512, .i1⟩ : BufTy).Contents (Elt F) → (⟨S64x1x512x512, .f32⟩ : BufTy).Contents (Elt F)),
    binary main_v80 main_arg1 main_v81 (mulf : (⟨S64x1x512x512, .f32⟩ : BufTy).Contents (Elt F) → (⟨S64x1x512x512, .f32⟩ : BufTy).Contents (Elt F) → (⟨S64x1x512x512, .f32⟩ : BufTy).Contents (Elt F)),
    nullary main_cst_15 (constant S_ .f32 0x00000000#32),
    binary main_v81 main_cst_15 main_v82 ((fun x v => Host.reduceAdd x v reducesTo_S64x1x512x512_S64x1_d3_2 h_S_) : (⟨S64x1x512x512, .f32⟩ : BufTy).Contents (Elt F) → (⟨S_, .f32⟩ : BufTy).Contents (Elt F) → (⟨S64x1, .f32⟩ : BufTy).Contents (Elt F)),
    binary main_v80 main_arg1 main_v83 (addf : (⟨S64x1x512x512, .f32⟩ : BufTy).Contents (Elt F) → (⟨S64x1x512x512, .f32⟩ : BufTy).Contents (Elt F) → (⟨S64x1x512x512, .f32⟩ : BufTy).Contents (Elt F)),
    nullary main_cst_16 (constant S_ .f32 0x00000000#32),
    binary main_v83 main_cst_16 main_v84 ((fun x v => Host.reduceAdd x v reducesTo_S64x1x512x512_S64x1_d3_2 h_S_) : (⟨S64x1x512x512, .f32⟩ : BufTy).Contents (Elt F) → (⟨S_, .f32⟩ : BufTy).Contents (Elt F) → (⟨S64x1, .f32⟩ : BufTy).Contents (Elt F)),
    binary main_v84 main_v82 main_v85 (subf : (⟨S64x1, .f32⟩ : BufTy).Contents (Elt F) → (⟨S64x1, .f32⟩ : BufTy).Contents (Elt F) → (⟨S64x1, .f32⟩ : BufTy).Contents (Elt F)),
    nullary main_cst_17 (constant S_ .f32 0x3F800000#32),
    unary main_cst_17 main_v86 (broadcastInDim S64x1 ![] bcast_S_S64x1 : (⟨S_, .f32⟩ : BufTy).Contents (Elt F) → (⟨S64x1, .f32⟩ : BufTy).Contents (Elt F)),
    binary main_v82 main_v86 main_v87 (addf : (⟨S64x1, .f32⟩ : BufTy).Contents (Elt F) → (⟨S64x1, .f32⟩ : BufTy).Contents (Elt F) → (⟨S64x1, .f32⟩ : BufTy).Contents (Elt F)),
    nullary main_cst_18 (constant S_ .f32 0x3F800000#32),
    unary main_cst_18 main_v88 (broadcastInDim S64x1 ![] bcast_S_S64x1 : (⟨S_, .f32⟩ : BufTy).Contents (Elt F) → (⟨S64x1, .f32⟩ : BufTy).Contents (Elt F)),
    binary main_v85 main_v88 main_v89 (addf : (⟨S64x1, .f32⟩ : BufTy).Contents (Elt F) → (⟨S64x1, .f32⟩ : BufTy).Contents (Elt F) → (⟨S64x1, .f32⟩ : BufTy).Contents (Elt F)),
    binary main_v87 main_v89 main_v90 (Host.divf : (⟨S64x1, .f32⟩ : BufTy).Contents (Elt F) → (⟨S64x1, .f32⟩ : BufTy).Contents (Elt F) → (⟨S64x1, .f32⟩ : BufTy).Contents (Elt F)),
    nullary main_cst_19 (constant S_ .f32 0x00000000#32),
    binary main_v90 main_cst_19 main_v91 ((fun x v => Host.reduceAdd x v reducesTo_S64x1_S_d0_1 h_S_) : (⟨S64x1, .f32⟩ : BufTy).Contents (Elt F) → (⟨S_, .f32⟩ : BufTy).Contents (Elt F) → (⟨S_, .f32⟩ : BufTy).Contents (Elt F)),
    nullary main_cst_20 (constant S_ .f32 0x42800000#32),
    binary main_v91 main_cst_20 main_v92 (Host.divf : (⟨S_, .f32⟩ : BufTy).Contents (Elt F) → (⟨S_, .f32⟩ : BufTy).Contents (Elt F) → (⟨S_, .f32⟩ : BufTy).Contents (Elt F)) ]

/-- All operations of @main, in order. -/
abbrev ops : List (HloOp τ sig (Elt F)) := opsA ++ (opsB ++ (opsC ++ (opsD ++ opsE)))

/-- @main is that straight line. -/
theorem main_eq (c : Dev nD) : main (F := F) c = seq ops := rfl

/-- Contents after two stretches of operations are the second's over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-! ## What every stage leaves -/

/-- The first stage leaves the probabilities, -/
theorem A_prob (V : Valuation τ sig (Elt F)) : after opsA V (main_v5 : DevRef τ sig) = prob (V (main_arg0 : DevRef τ sig)) := by
  after_reads_simp; rfl
/-- their least value in each row, -/
theorem A_lo (V : Valuation τ sig (Elt F)) : after opsA V (main_v8 : DevRef τ sig) = lo (rows (prob (V (main_arg0 : DevRef τ sig)))) := by
  after_reads_simp; rfl
/-- their spread in each row, -/
theorem A_wid (V : Valuation τ sig (Elt F)) : after opsA V (main_v11 : DevRef τ sig) = wid (rows (prob (V (main_arg0 : DevRef τ sig)))) := by
  after_reads_simp; rfl
/-- every pixel's bin, -/
theorem A_bins (V : Valuation τ sig (Elt F)) : after opsA V (main_v22 : DevRef τ sig) = bins (rows (prob (V (main_arg0 : DevRef τ sig)))) := by
  after_reads_simp; rfl
/-- and the targets as they were. -/
theorem A_tgt (V : Valuation τ sig (Elt F)) : after opsA V (main_arg1 : DevRef τ sig) = V (main_arg1 : DevRef τ sig) := by
  after_reads_simp

/-- The second stage leaves the histograms, -/
theorem B_hist (V : Valuation τ sig (Elt F)) : after opsB V (main_v41 : DevRef τ sig) = hist (V (main_v22 : DevRef τ sig)) := by
  after_reads_simp; rfl
/-- the bin centers, -/
theorem B_mids (V : Valuation τ sig (Elt F)) :
    after opsB V (main_v52 : DevRef τ sig) = mids (V (main_v8 : DevRef τ sig)) (V (main_v11 : DevRef τ sig)) := by
  after_reads_simp; rfl
/-- the probabilities as they were, -/
theorem B_prob (V : Valuation τ sig (Elt F)) : after opsB V (main_v5 : DevRef τ sig) = V (main_v5 : DevRef τ sig) := by
  after_reads_simp
/-- and the targets as they were. -/
theorem B_tgt (V : Valuation τ sig (Elt F)) : after opsB V (main_arg1 : DevRef τ sig) = V (main_arg1 : DevRef τ sig) := by
  after_reads_simp

/-- The third stage leaves the variances, -/
theorem C_vari (V : Valuation τ sig (Elt F)) :
    after opsC V (main_v72 : DevRef τ sig) = vari (V (main_v41 : DevRef τ sig)) (V (main_v52 : DevRef τ sig)) := by
  after_reads_simp; rfl
/-- the bin centers as they were, -/
theorem C_mids (V : Valuation τ sig (Elt F)) : after opsC V (main_v52 : DevRef τ sig) = V (main_v52 : DevRef τ sig) := by
  after_reads_simp
/-- the probabilities as they were, -/
theorem C_prob (V : Valuation τ sig (Elt F)) : after opsC V (main_v5 : DevRef τ sig) = V (main_v5 : DevRef τ sig) := by
  after_reads_simp
/-- and the targets as they were. -/
theorem C_tgt (V : Valuation τ sig (Elt F)) : after opsC V (main_arg1 : DevRef τ sig) = V (main_arg1 : DevRef τ sig) := by
  after_reads_simp

/-- The fourth stage leaves the thresholds, -/
theorem D_thr (V : Valuation τ sig (Elt F)) :
    after opsD V (main_v76 : DevRef τ sig) = thr (V (main_v52 : DevRef τ sig)) (best (V (main_v72 : DevRef τ sig))) := by
  after_reads_simp; rfl
/-- the probabilities as they were, -/
theorem D_prob (V : Valuation τ sig (Elt F)) : after opsD V (main_v5 : DevRef τ sig) = V (main_v5 : DevRef τ sig) := by
  after_reads_simp
/-- and the targets as they were. -/
theorem D_tgt (V : Valuation τ sig (Elt F)) : after opsD V (main_arg1 : DevRef τ sig) = V (main_arg1 : DevRef τ sig) := by
  after_reads_simp

/-- The fifth stage leaves the result. -/
theorem E_score (V : Valuation τ sig (Elt F)) : after opsE V (main_v92 : DevRef τ sig)
    = score (mask (V (main_v5 : DevRef τ sig)) (V (main_v76 : DevRef τ sig))) (V (main_arg1 : DevRef τ sig)) := by
  after_reads_simp; rfl

/-- All stages together leave the reference's result. -/
theorem result_eq (V : Valuation τ sig (Elt F)) : after ops V (main_v92 : DevRef τ sig)
    = result (V (main_arg0 : DevRef τ sig)) (V (main_arg1 : DevRef τ sig)) := by
  rw [after_app, after_app, after_app, after_app, E_score, D_prob, D_thr, D_tgt, C_prob, C_mids, C_vari, C_tgt, B_prob, B_mids, B_hist,
    B_tgt, A_prob, A_lo, A_wid, A_bins, A_tgt]
  rfl

/-- No operation writes the logits, -/
theorem arg0_eq (V : Valuation τ sig (Elt F)) : after ops V (main_arg0 : DevRef τ sig) = V (main_arg0 : DevRef τ sig) := by
  rw [after_app, after_app, after_app, after_app]; after_reads_simp
/-- or the targets. -/
theorem arg1_eq (V : Valuation τ sig (Elt F)) : after ops V (main_arg1 : DevRef τ sig) = V (main_arg1 : DevRef τ sig) := by
  rw [after_app, after_app, after_app, after_app]; after_reads_simp

/-! ## The run -/

/-- No buffer of this signature is scoped, -/
theorem scopedRefs_eq : (Finset.univ.filter fun b : Ref sig .tc => b.isScoped) = ∅ := by decide
/-- and no semaphore is. -/
theorem scopedSems_eq : (Finset.univ.filter fun sm : SemLoc sig => sm.isScoped .tc) = ∅ := by decide

/-- The operations of stage A touch the core's own buffers only. -/
theorem opsA_sub : (opsA : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., reshape_bufs_sub .., nullary_bufs_sub .., binary_bufs_sub .., unary_bufs_sub .., nullary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub ..⟩

/-- The operations of stage B touch the core's own buffers only. -/
theorem opsB_sub : (opsB : List (HloOp τ sig (Elt F))).Forall fun op => op.bufs ⊆ tcRefs τ sig :=
  ⟨nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., nullary_bufs_sub .., unary_bufs_sub .., ternary_bufs_sub .., nullary_bufs_sub .., nullary_bufs_sub .., unary_bufs_sub .., binary_bufs_sub .., unary_bufs_sub .., nullary_bufs_sub .., unary_bufs_sub .., binary_bufs_sub .., unary_bufs_sub .., unary_bufs_sub .., binary_bufs_sub .., unary_bufs_sub .., binary_bufs_sub ..⟩

/-- The operations of stage C touch the core's own buffers only. -/
theorem opsC_sub : (opsC : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., unary_bufs_sub .., unary_bufs_sub .., unary_bufs_sub .., unary_bufs_sub .., binary_bufs_sub .., unary_bufs_sub .., unary_bufs_sub .., binary_bufs_sub .., binary_bufs_sub .., binary_bufs_sub ..⟩

/-- The operations of stage D touch the core's own buffers only. -/
theorem opsD_sub : (opsD : List (HloOp τ sig (Elt F))).Forall fun op => op.bufs ⊆ tcRefs τ sig :=
  ⟨nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., binary_bufs_sub .., ternary_bufs_sub .., reshape_bufs_sub .., binary_bufs_sub .., reshape_bufs_sub ..⟩

/-- The operations of stage E touch the core's own buffers only. -/
theorem opsE_sub : (opsE : List (HloOp τ sig (Elt F))).Forall fun op => op.bufs ⊆ tcRefs τ sig :=
  ⟨unary_bufs_sub .., unary_bufs_sub .., binary_bufs_sub .., unary_bufs_sub .., binary_bufs_sub .., nullary_bufs_sub .., binary_bufs_sub .., binary_bufs_sub .., nullary_bufs_sub .., binary_bufs_sub .., binary_bufs_sub .., nullary_bufs_sub .., unary_bufs_sub .., binary_bufs_sub .., nullary_bufs_sub .., unary_bufs_sub .., binary_bufs_sub .., binary_bufs_sub .., nullary_bufs_sub .., binary_bufs_sub .., nullary_bufs_sub .., binary_bufs_sub ..⟩

/-- Every operation touches the core's own buffers only. -/
theorem ops_sub : (ops : List (HloOp τ sig (Elt F))).Forall fun op => op.bufs ⊆ tcRefs τ sig := by
  unfold ops
  simp only [List.forall_append]
  exact ⟨opsA_sub, opsB_sub, opsC_sub, opsD_sub, opsE_sub⟩

/-- From any memory with zero counters the program ends, with the reference's result in its result buffer and the
    arguments as they were. -/
theorem run (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v92)
          = result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v92).trans (result_eq _), (h c main_arg0).trans (arg0_eq _),
      (h c main_arg1).trans (arg1_eq _)⟩)
    (run_seq scopedRefs_eq scopedSems_eq defs main (fun _ => ops) main_eq (fun _ => ops_sub) m ρ)

/-- From any memory with zero counters the program ends, with the arguments as they were and all counters at zero. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩) (run m ρ)

end Run

end Cert.Proof.Ref

end
-- ==== Proof.Region0.lean ====
/- What one grid point of the threshold launch leaves in its output block, as a recursion over the 32 chunks of the rows
   and a recursion over the 16 samples. -/
module
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.Proof.Thresh

open Cert.KernelIdeal Cert.KernelIdeal.Gen
open Idealize.ShloMosaic Idealize.ShloMosaic.TcCoe Idealize.ShloMosaic.Tactic
open Idealize.SL.Sem

variable {F : FTy → Type} [FloatOps F]

/-- Chunk `n` of the rows lies inside them. -/
theorem chunk_inb (n : ℕ) (h : n < 32) : ∀ a, (![0, 0, 8192 * n] : Fin 3 → ℕ) a + (![1, 16, 8192] : Fin 3 → ℕ) a ≤ S1x16x262144.size a := by
  intro a; fin_cases a <;> simp [S1x16x262144] <;> omega

/-- Chunk `n` of the 16 rows: lanes `8192 n` to `8192 n + 8191`. -/
def chunk (x : Vec F S1x16x262144 .f32) (n : ℕ) : Vec F S1x16x8192 .f32 :=
  if h : n < 32 then View.ld x (Rect.unit (s := S1x16x262144) ![0, 0, 8192 * n] ![1, 16, 8192] (chunk_inb n h))
  else fun _ => Scalar.ofBits .f32 0x00000000#32

/-- The accumulator after `n` chunks. -/
def accum (x : Vec F S1x16x262144 .f32) : ℕ → FVec F S256x256 .f32
  | 0 => k0_pay6
  | n + 1 => k0_pay151 (k0_pay150 (k0_pay3 x) (k0_pay5 x) k0_pay7 (chunk x n) (accum x n))

/-- The diagonal block `s` of the accumulator lies inside it. -/
theorem diag_inb (s : Fin 16) : S256x256.Slices ![16 * s.val, 16 * s.val] S16x16 := by revert s; decide

/-- Row `s` of a column of 16 numbers lies inside it. -/
theorem row_inb (s : Fin 16) : S16x1.Slices ![s.val, 0] S1x1 := by revert s; decide

/-- The histogram of sample `s`, 16 by 16. -/
def diag (A : FVec F S256x256 .f32) (s : Fin 16) : FVec F S16x16 .f32 := extractStridedSlice S16x16 ![16 * s.val, 16 * s.val] A (diag_inb s)

/-- Row `s` of a column of 16 numbers. -/
def pick (v : FVec F S16x1 .f32) (s : Fin 16) : FVec F S1x1 .f32 := extractStridedSlice S1x1 ![s.val, 0] v (row_inb s)

/-- The bin centres weighted by the histogram. -/
def weighted (hs : FVec F S16x16 .f32) (mn span : FVec F S1x1 .f32) : FVec F S16x16 .f32 :=
  mulf hs (addf (broadcastTo S16x16 mn broadcasts_S1x1_S16x16)
    (mulf (addf k0_pay160 (broadcast S16x16 (Scalar.ofBits .f32 0x3F000000#32)))
      (broadcastTo S16x16 (divf span (broadcast S1x1 (Scalar.ofBits .f32 0x43800000#32))) broadcasts_S1x1_S16x16)))

/-- A sample's threshold, on every lane, from its histogram, its least probability and its span. -/
def otsu (hs : FVec F S16x16 .f32) (mn span : FVec F S1x1 .f32) : FVec F S1x128 .f32 :=
  k0_pay175 k0_pay158 k0_pay159 k0_pay160 hs mn span (weighted hs mn span)

/-- The lane numbers. -/
def lanes : IVec S1x128 32 := iota .tc S1x128 32 [1] iota_S1x128_d1_w32

/-- The thresholds of the samples below `n`, sample `s` in lane `s`. -/
def rowOf (x : Vec F S1x16x262144 .f32) : ℕ → FVec F S1x128 .f32
  | 0 => k0_pay161
  | n + 1 => addf (rowOf x n) (select (cmpi .eq lanes (broadcast S1x128 (BitVec.ofNat 32 n)))
      (if h : n < 16 then otsu (diag (accum x 32) ⟨n, h⟩) (pick (k0_pay3 x) ⟨n, h⟩) (pick (k0_pay4 x) ⟨n, h⟩) else k0_pay161)
      (broadcast S1x128 (Scalar.ofBits .f32 0x00000000#32)))

set_option maxHeartbeats 4000000 in
/-- What grid point `t` leaves in its output block: the 16 samples' thresholds, lane by lane. -/
theorem outsAt0_eq (V : (c : Dev nD) → (b : Ref sig .tc) → Buf (Elt F) ((c : Thread nD τ).loc b)) (c : Dev nD) (t : Fin cfg0.N) :
    outsAt0 V c t = shapeCast S1x1x128 (rowOf (iblk0 V c 0 t) 16) shapeCasts_S1x128_S1x1x128 := by
  unfold outsAt0 out0_A_1
  frame_open
  simp (disch := decide) only [↓ View.readCov_skip, ↓ View.readCov_cons_toLoadRect, ↓ View.readCov_fill]
  frame_out
  sl_kernel_rfl

end Cert.Proof.Thresh
end
-- ==== Proof.OtsuMath.lean ====
/- Otsu's threshold over the reals: bins, counts, the two classes' weights, the variance between them and the first bin at
   which it is greatest. -/
module
public import Mathlib.Algebra.BigOperators.Intervals
public import Mathlib.Algebra.Order.BigOperators.Group.Finset
public import Mathlib.Algebra.Order.Floor.Semiring
public import Mathlib.Data.Real.Basic
public import Mathlib.Data.Fintype.BigOperators
public import Mathlib.Algebra.Order.Archimedean.Real.Basic
public import Mathlib.Tactic.Linarith
public import Mathlib.Tactic.Positivity
public import Mathlib.Tactic.FieldSimp
public import Mathlib.Tactic.NormNum

@[expose] public section

noncomputable section

namespace Cert.Proof.Otsu

open Finset

variable {ι : Type} [Fintype ι]

/-- The factor that takes an offset from the least value to a bin: 256 over the span, or 0 when there is no span. -/
def scale (span : ℝ) : ℝ := if 0 < span then 256 / span else 0

/-- The bin of entry `n`. -/
def bin (q : ι → ℝ) (mn sc : ℝ) (n : ι) : ℕ := min 255 ⌊(q n - mn) * sc⌋₊

/-- How many entries lie in bin `k`. -/
def cnt (q : ι → ℝ) (mn sc : ℝ) (k : ℕ) : ℝ := ∑ n, if bin q mn sc n = k then 1 else 0

/-- The centre of bin `k`. -/
def ctr (mn span : ℝ) (k : ℕ) : ℝ := mn + ((k : ℝ) + 1 / 2) * (span / 256)

/-- The sum of `f` over the bins up to `k`. -/
def below (f : ℕ → ℝ) (k : ℕ) : ℝ := ∑ j ∈ range (k + 1), f j

/-- The sum of `f` over the bins past `k`. -/
def above (f : ℕ → ℝ) (k : ℕ) : ℝ := ∑ j ∈ Ico (k + 1) 256, f j

/-- The variance between the two classes that the cut after bin `k` makes, from the weights `f` and the moments `g`. -/
def between (f g : ℕ → ℝ) (k : ℕ) : ℝ :=
  below f k * above f k * (below g k / below f k - above g k / above f k) * (below g k / below f k - above g k / above f k)

/-- `k` is the first of 255 places at which `f` is greatest. -/
def FirstMax (f : ℕ → ℝ) (k : ℕ) : Prop := k < 255 ∧ (∀ j < 255, f j ≤ f k) ∧ ∀ j < k, f j < f k

/-- There is a first greatest place. -/
theorem exists_firstMax (f : ℕ → ℝ) : ∃ k, FirstMax f k := by
  obtain ⟨m, hm, hmax⟩ := exists_max_image (range 255) f ⟨0, by simp⟩
  have hex : ∃ k, k < 255 ∧ ∀ j < 255, f j ≤ f k := ⟨m, mem_range.mp hm, fun j hj => hmax j (mem_range.mpr hj)⟩
  classical
  refine ⟨Nat.find hex, (Nat.find_spec hex).1, (Nat.find_spec hex).2, fun j hj => ?_⟩
  by_contra hc
  push Not at hc
  have hf := Nat.find_spec hex
  exact Nat.find_min hex hj ⟨lt_trans hj hf.1, fun i hi => (hf.2 i hi).trans hc⟩

/-- It is the only one. -/
theorem FirstMax.unique {f : ℕ → ℝ} {a b : ℕ} (ha : FirstMax f a) (hb : FirstMax f b) : a = b := by
  rcases lt_trichotomy a b with h | h | h
  · exact absurd (ha.2.1 b hb.1) (not_le.mpr (hb.2.2 a h))
  · exact h
  · exact absurd (hb.2.1 a ha.1) (not_le.mpr (ha.2.2 b h))

/-- The bin that Otsu's method picks. -/
def pickBin (f g : ℕ → ℝ) : ℕ := (exists_firstMax (between f g)).choose

theorem pickBin_spec (f g : ℕ → ℝ) : FirstMax (between f g) (pickBin f g) := (exists_firstMax (between f g)).choose_spec

/-- Otsu's threshold of the entries `q` whose least value is `mn` and whose values span `span`. -/
def threshold (q : ι → ℝ) (mn span : ℝ) : ℝ :=
  if 0 < span then
    ctr mn span (pickBin (cnt q mn (scale span)) fun k => cnt q mn (scale span) k * ctr mn span k)
  else mn

theorem bin_le (q : ι → ℝ) (mn sc : ℝ) (n : ι) : bin q mn sc n ≤ 255 := min_le_left _ _

theorem cnt_nonneg (q : ι → ℝ) (mn sc : ℝ) (k : ℕ) : 0 ≤ cnt q mn sc k :=
  sum_nonneg fun n _ => by split <;> norm_num

/-- A bin that holds an entry has a positive count. -/
theorem cnt_pos (q : ι → ℝ) (mn sc : ℝ) (n : ι) : 0 < cnt q mn sc (bin q mn sc n) := by
  refine sum_pos' (fun n _ => by split <;> norm_num) ⟨n, mem_univ _, by simp⟩

/-- The first bin holds the least entry. -/
theorem cnt_first (q : ι → ℝ) (mn sc : ℝ) (n : ι) (h : q n = mn) : 0 < cnt q mn sc 0 := by
  have := cnt_pos q mn sc n
  rwa [show bin q mn sc n = 0 by simp [bin, h]] at this

/-- The last bin holds the greatest entry. -/
theorem cnt_last (q : ι → ℝ) (mn span : ℝ) (n : ι) (h : q n - mn = span) (hs : 0 < span) : 0 < cnt q mn (scale span) 255 := by
  have := cnt_pos q mn (scale span) n
  have e : (q n - mn) * scale span = 256 := by rw [h, scale, if_pos hs]; field_simp
  rwa [show bin q mn (scale span) n = 255 by simp [bin, e]] at this

/-- The lower class has weight, -/
theorem below_pos (f : ℕ → ℝ) (h : ∀ k, 0 ≤ f k) (h0 : 0 < f 0) (k : ℕ) : 0 < below f k :=
  sum_pos' (fun j _ => h j) ⟨0, by simp, h0⟩

/-- and so has the upper one, short of the last bin. -/
theorem above_pos (f : ℕ → ℝ) (h : ∀ k, 0 ≤ f k) (h1 : 0 < f 255) (k : ℕ) (hk : k < 255) : 0 < above f k :=
  sum_pos' (fun j _ => h j) ⟨255, by simp; omega, h1⟩

/-- The upper sum is what the lower one leaves of the whole. -/
theorem above_eq (f : ℕ → ℝ) (k : ℕ) (hk : k < 256) : below f 255 - below f k = above f k := by
  have e := sum_range_add_sum_Ico f (show k + 1 ≤ 256 by omega)
  rw [sub_eq_iff_eq_add, add_comm]
  exact e.symm

theorem between_nonneg (f g : ℕ → ℝ) (k : ℕ) (h : 0 < below f k) (h' : 0 < above f k) : 0 ≤ between f g k := by
  unfold between
  rw [mul_assoc]
  exact mul_nonneg (mul_nonneg h.le h'.le) (mul_self_nonneg _)

/-- A block of 16 rows of 16 bins, summed up to row `i`, column `j`. -/
theorem below_rows (f : ℕ → ℝ) (i j : Fin 16) :
    (∑ b : Fin 16, if b ≤ j then f (16 * i.val + b.val) else 0) + (∑ a : Fin 16, if a < i then ∑ b : Fin 16, f (16 * a.val + b.val) else 0)
      = below f (16 * i.val + j.val) := by
  have hrow : ∀ n : ℕ, ∑ k ∈ range (16 * n), f k = ∑ a ∈ range n, ∑ b ∈ range 16, f (16 * a + b) := by
    intro n
    induction n with
    | zero => simp
    | succ n ih => rw [sum_range_succ, ← ih, show 16 * (n + 1) = 16 * n + 16 by ring, sum_range_add]
  unfold below
  rw [show 16 * i.val + j.val + 1 = 16 * i.val + (j.val + 1) by ring, sum_range_add, hrow, add_comm]
  congr 1
  · have e : ∀ a : Fin 16, (∑ b : Fin 16, f (16 * a.val + b.val)) = ∑ b ∈ range 16, f (16 * a.val + b) :=
      fun a => Fin.sum_univ_eq_sum_range (fun b => f (16 * a.val + b)) 16
    simp only [e]
    rw [show (∑ a : Fin 16, if a < i then ∑ b ∈ range 16, f (16 * a.val + b) else 0)
        = ∑ a ∈ range 16, if a < i.val then ∑ b ∈ range 16, f (16 * a + b) else 0 from
      Fin.sum_univ_eq_sum_range (fun a => if a < i.val then ∑ b ∈ range 16, f (16 * a + b) else 0) 16, ← sum_filter]
    congr 1
    ext a; simp; omega
  · rw [show (∑ b : Fin 16, if b ≤ j then f (16 * i.val + b.val) else 0)
        = ∑ b ∈ range 16, if b ≤ j.val then f (16 * i.val + b) else 0 from
      Fin.sum_univ_eq_sum_range (fun b => if b ≤ j.val then f (16 * i.val + b) else 0) 16, ← sum_filter]
    congr 1
    ext b; simp; omega

end Cert.Proof.Otsu
end
-- ==== Proof.Prob.lean ====
/- The extended reals the programs compute with, where they are real: the logistic function, least and greatest entries, the
   constants as printed, the bins as floored and as truncated numbers. -/
module
public import proofs.«01_k».proof.Proof.OtsuMath
public import Idealize.ShloMosaic.PureOps.Ideal
public import Idealize.ShloMosaic.PureOps.Ideal.Laws

@[expose] public section

noncomputable section

namespace Cert.Proof.Otsu

open Finset Idealize.ShloMosaic

/-- The logistic function as a real number: 0 at minus infinity and 1 at plus infinity. -/
def sig (r : EReal) : ℝ := (Ideal.logistic r).toReal

/-- The logistic function is real everywhere. -/
theorem logistic_eq (r : EReal) : Ideal.logistic r = ((sig r : ℝ) : EReal) := by
  unfold sig
  induction r with
  | bot => simp
  | top => simp
  | coe r => rw [Ideal.logistic_coe, EReal.toReal_coe]

/-- It grows with its argument. -/
theorem sig_mono : Monotone sig := by
  have hb : sig ⊥ = 0 := by simp [sig]
  have ht : sig ⊤ = 1 := by simp [sig]
  have hc : ∀ r : ℝ, sig (r : EReal) = (1 + Real.exp (-r))⁻¹ := fun r => by rw [sig, Ideal.logistic_coe, EReal.toReal_coe]
  intro a b hab
  induction a with
  | bot =>
    rw [hb]
    induction b with
    | bot => rw [hb]
    | top => rw [ht]; exact zero_le_one
    | coe b => rw [hc]; positivity
  | top => rw [top_le_iff.mp hab]
  | coe a =>
    induction b with
    | bot => exact absurd hab (by simp)
    | top =>
      rw [hc, ht]
      exact inv_le_one_of_one_le₀ (by have := Real.exp_pos (-a); linarith)
    | coe b =>
      rw [hc, hc]
      have : Real.exp (-b) ≤ Real.exp (-a) := Real.exp_le_exp.mpr (by have := EReal.coe_le_coe_iff.mp hab; linarith)
      exact inv_anti₀ (by positivity) (by linarith)

section Ends
variable {ι : Type} [Fintype ι] [Nonempty ι]

/-- The least entry. -/
def lowest (q : ι → ℝ) : ℝ := univ.inf' univ_nonempty q

/-- The greatest entry. -/
def highest (q : ι → ℝ) : ℝ := univ.sup' univ_nonempty q

theorem lowest_le (q : ι → ℝ) (n : ι) : lowest q ≤ q n := inf'_le _ (mem_univ n)

theorem le_highest (q : ι → ℝ) (n : ι) : q n ≤ highest q := le_sup' _ (mem_univ n)

theorem exists_lowest (q : ι → ℝ) : ∃ n, q n = lowest q := by
  obtain ⟨n, _, h⟩ := exists_mem_eq_inf' univ_nonempty q
  exact ⟨n, h.symm⟩

theorem exists_highest (q : ι → ℝ) : ∃ n, q n = highest q := by
  obtain ⟨n, _, h⟩ := exists_mem_eq_sup' univ_nonempty q
  exact ⟨n, h.symm⟩

theorem lowest_le_highest (q : ι → ℝ) : 0 ≤ highest q - lowest q := by
  obtain ⟨n, h⟩ := exists_lowest q
  have := le_highest q n
  linarith

/-- The fold that takes the least of real entries. -/
theorem fold_min_coe (q : ι → ℝ) : univ.fold min (⊤ : EReal) (fun n => ((q n : ℝ) : EReal)) = ((lowest q : ℝ) : EReal) := by
  apply le_antisymm
  · obtain ⟨n, h⟩ := exists_lowest q
    rw [← h]
    exact (fold_min_le _).mpr (.inr ⟨n, mem_univ n, le_rfl⟩)
  · exact (le_fold_min _).mpr ⟨le_top, fun n _ => EReal.coe_le_coe_iff.mpr (lowest_le q n)⟩

/-- The fold that takes the greatest of real entries. -/
theorem fold_max_coe (q : ι → ℝ) : univ.fold max (⊥ : EReal) (fun n => ((q n : ℝ) : EReal)) = ((highest q : ℝ) : EReal) := by
  apply le_antisymm
  · exact (fold_max_le _).mpr ⟨bot_le, fun n _ => EReal.coe_le_coe_iff.mpr (le_highest q n)⟩
  · obtain ⟨n, h⟩ := exists_highest q
    rw [← h]
    exact (le_fold_max _).mpr (.inr ⟨n, mem_univ n, le_rfl⟩)

/-- The logistic function of the least entry is the least of the logistic function's values. -/
theorem sig_fold_min (r : ι → EReal) : sig (univ.fold min ⊤ r) = lowest fun n => sig (r n) := by
  apply le_antisymm
  · obtain ⟨n, h⟩ := exists_lowest fun n => sig (r n)
    rw [← h]
    exact sig_mono ((fold_min_le _).mpr (.inr ⟨n, mem_univ n, le_rfl⟩))
  · obtain ⟨n, _, h⟩ := exists_mem_eq_inf' univ_nonempty r
    have e : univ.fold min ⊤ r = r n := le_antisymm ((fold_min_le _).mpr (.inr ⟨n, mem_univ n, le_rfl⟩))
      ((le_fold_min _).mpr ⟨le_top, fun i _ => h ▸ inf'_le _ (mem_univ i)⟩)
    rw [e]
    exact lowest_le (fun n => sig (r n)) n

/-- The logistic function of the greatest entry is the greatest of the logistic function's values. -/
theorem sig_fold_max (r : ι → EReal) : sig (univ.fold max ⊥ r) = highest fun n => sig (r n) := by
  apply le_antisymm
  · obtain ⟨n, _, h⟩ := exists_mem_eq_sup' univ_nonempty r
    have e : univ.fold max ⊥ r = r n := le_antisymm ((fold_max_le _).mpr ⟨bot_le, fun i _ => h ▸ le_sup' _ (mem_univ i)⟩)
      ((le_fold_max _).mpr (.inr ⟨n, mem_univ n, le_rfl⟩))
    rw [e]
    exact le_highest (fun n => sig (r n)) n
  · obtain ⟨n, h⟩ := exists_highest fun n => sig (r n)
    rw [← h]
    exact sig_mono ((le_fold_max _).mpr (.inr ⟨n, mem_univ n, le_rfl⟩))

/-- Otsu's threshold of the entries `q`. -/
def cut (q : ι → ℝ) : ℝ := threshold q (lowest q) (highest q - lowest q)

end Ends

/-! The constants as the programs print them. -/

theorem f32_255 : Ideal.ofBits FTy.f32 1132396544#32 = ((255 : ℝ) : EReal) := by simp [Ideal.ofBits, Ideal.ieee]; rw [← EReal.coe_mul]; norm_num
theorem f32_256 : Ideal.ofBits FTy.f32 1132462080#32 = ((256 : ℝ) : EReal) := by simp [Ideal.ofBits, Ideal.ieee]; rw [← EReal.coe_mul]; norm_num
theorem f32_16 : Ideal.ofBits FTy.f32 1098907648#32 = ((16 : ℝ) : EReal) := by simp [Ideal.ofBits, Ideal.ieee]; rw [← EReal.coe_mul]; norm_num
theorem f32_16th : Ideal.ofBits FTy.f32 1031798784#32 = ((1 / 16 : ℝ) : EReal) := by simp [Ideal.ofBits, Ideal.ieee]; rw [← EReal.coe_mul]; norm_num
theorem f32_half : Ideal.ofBits FTy.f32 1056964608#32 = ((1 / 2 : ℝ) : EReal) := by simp [Ideal.ofBits, Ideal.ieee]; rw [← EReal.coe_mul]; norm_num
theorem f32_neg_one : Ideal.ofBits FTy.f32 3212836864#32 = ((-1 : ℝ) : EReal) := by simp [Ideal.ofBits, Ideal.ieee]; rw [← EReal.coe_mul]; norm_num
theorem f32_top : Ideal.ofBits FTy.f32 2139095040#32 = ⊤ := by simp [Ideal.ofBits, Ideal.ieee]
theorem f32_bot : Ideal.ofBits FTy.f32 4286578688#32 = ⊥ := by simp [Ideal.ofBits, Ideal.ieee]

/-! The bins. -/

/-- Dividing one real by another that is not zero. -/
theorem div_real (x y : ℝ) (h : y ≠ 0) : Ideal.div (x : EReal) (y : EReal) = ((x / y : ℝ) : EReal) := by
  rw [Ideal.div_coe h, ← EReal.coe_mul, mul_one_div]

/-- The scale as the programs compute it. -/
theorem scale_coe (s : ℝ) : (if 0 < ((s : ℝ) : EReal) then Ideal.div (((256 : ℝ) : ℝ) : EReal) (s : EReal) else 0) = ((scale s : ℝ) : EReal) := by
  unfold scale
  by_cases h : 0 < s
  · rw [if_pos (EReal.coe_pos.mpr h), if_pos h, div_real _ _ h.ne']
  · rw [if_neg (fun h' => h (EReal.coe_pos.mp h')), if_neg h, EReal.coe_zero]

theorem scale_nonneg (s : ℝ) : 0 ≤ scale s := by unfold scale; split <;> positivity

/-- A floored number clipped to the 256 bins. -/
theorem clip_floor (a : ℝ) (h : 0 ≤ a) :
    min (((255 : ℝ) : ℝ) : EReal) (max 0 (Ideal.liftRound Int.floor (a : EReal))) = (((min 255 ⌊a⌋₊ : ℕ) : ℝ) : EReal) := by
  have e : ((⌊a⌋ : ℤ) : ℝ) = ((⌊a⌋₊ : ℕ) : ℝ) := by
    rw [← Int.natCast_floor_eq_floor h]; simp
  rw [Ideal.liftRound_coe, e, max_eq_right (EReal.coe_nonneg.mpr (Nat.cast_nonneg _)),
    ← EReal.coe_strictMono.monotone.map_min]
  push_cast
  rfl

/-- A truncated number clipped to the 256 bins. -/
theorem clip_trunc (a : ℝ) (h : 0 ≤ a) :
    IntOp.minsi (255#32) (IntOp.maxsi (0#32) (Ideal.fptosi 32 (a : EReal))) = BitVec.ofNat 32 (min 255 ⌊a⌋₊) := by
  have e : (⌊a⌋ : ℤ) = ((⌊a⌋₊ : ℕ) : ℤ) := (Int.natCast_floor_eq_floor h).symm
  have hv : Ideal.fptosi 32 (a : EReal) = BitVec.ofNat 32 (min 2147483647 ⌊a⌋₊) := by
    unfold Ideal.fptosi
    rw [Ideal.toIntClamped_coe, if_pos h, e, ← BitVec.ofInt_natCast]
    congr 1
    norm_num
  rw [hv]
  generalize ⌊a⌋₊ = k
  have ht : ∀ n : ℕ, n < 2147483648 → (BitVec.ofNat 32 n).toInt = (n : ℤ) := fun n hn => by
    rw [BitVec.toInt_eq_toNat_of_lt (by rw [BitVec.toNat_ofNat]; omega), BitVec.toNat_ofNat]; omega
  have hmax : IntOp.maxsi (0#32) (BitVec.ofNat 32 (min 2147483647 k)) = BitVec.ofNat 32 (min 2147483647 k) := by
    unfold IntOp.maxsi
    rw [if_neg]
    rw [BitVec.slt_eq_decide, ht _ (by omega), ht 0 (by omega)]
    simp
  rw [hmax]
  unfold IntOp.minsi
  rw [BitVec.slt_eq_decide, ht 255 (by omega), ht _ (by omega)]
  split
  · next hlt => simp at hlt; congr 1; omega
  · next hlt => simp at hlt; congr 1; omega

end Cert.Proof.Otsu
end
-- ==== Proof.RowEnds.lean ====
/- The threshold launch's rows of probabilities: their least entries, spans and scales, and the base 16 digits of a bin's number. -/
module
public import proofs.«01_k».proof.Proof.Region0
public import proofs.«01_k».proof.Proof.Prob
public import Idealize.ShloMosaic.Lib.Pointwise

@[expose] public section

set_option maxRecDepth 16384

noncomputable section

namespace Cert.Proof.Thresh

open Cert.KernelIdeal Cert.KernelIdeal.Gen
open Idealize.ShloMosaic Idealize.ShloMosaic.TcCoe Idealize.ShloMosaic.Tactic
open Cert.Proof.Otsu

/-! ## Digits -/

/-- A small number read back as a float. -/
theorem sitofp_small (φ : FTy) (n : ℕ) (h : n < 2147483648) :
    (FloatOps.sitofp φ (BitVec.ofNat 32 n) : Idealize.ShloMosaic.Ideal φ) = (((n : ℕ) : ℝ) : EReal) := by
  show ((((BitVec.ofNat 32 n).toInt : ℤ) : ℝ) : EReal) = _
  rw [show (BitVec.ofNat 32 n).toInt = (n : ℤ) by
    rw [BitVec.toInt_eq_toNat_of_lt (by rw [BitVec.toNat_ofNat]; omega), BitVec.toNat_ofNat]; omega]
  push_cast
  rfl

/-- The high digit of a bin's number in base 16. -/
theorem high_digit (b : ℕ) : Ideal.liftRound Int.floor ((((b : ℕ) : ℝ) : EReal) * ((1 / 16 : ℝ) : EReal)) = (((b / 16 : ℕ) : ℝ) : EReal) := by
  rw [← EReal.coe_mul, Ideal.liftRound_coe]
  have e : ⌊((b : ℕ) : ℝ) * (1 / 16)⌋ = ((b / 16 : ℕ) : ℤ) := by
    have h : ((b : ℕ) : ℝ) = 16 * ((b / 16 : ℕ) : ℝ) + ((b % 16 : ℕ) : ℝ) := by exact_mod_cast (Nat.div_add_mod b 16).symm
    have h0 : (0 : ℝ) ≤ ((b % 16 : ℕ) : ℝ) := Nat.cast_nonneg _
    have h1 : ((b % 16 : ℕ) : ℝ) < 16 := by exact_mod_cast Nat.mod_lt b (by norm_num)
    rw [Int.floor_eq_iff]
    rw [Int.cast_natCast]
    constructor <;> linarith
  rw [e, Int.cast_natCast]

/-- The low digit. -/
theorem low_digit (b : ℕ) : (((b : ℕ) : ℝ) : EReal) - ((16 : ℝ) : EReal) * (((b / 16 : ℕ) : ℝ) : EReal) = (((b % 16 : ℕ) : ℝ) : EReal) := by
  rw [← EReal.coe_mul, ← EReal.coe_sub]
  congr 1
  have : ((b : ℕ) : ℝ) = 16 * ((b / 16 : ℕ) : ℝ) + ((b % 16 : ℕ) : ℝ) := by exact_mod_cast (Nat.div_add_mod b 16).symm
  linarith

/-- Two numbers agree as floats when they agree. -/
theorem nat_coe_inj (a b : ℕ) : ((((a : ℕ) : ℝ) : EReal) = (((b : ℕ) : ℝ) : EReal)) ↔ a = b := by
  rw [EReal.coe_eq_coe_iff, Nat.cast_inj]

/-- A pixel counts toward a cell exactly when its bin's two digits are the cell's. -/
theorem cell_eq (b h l : ℕ) (hl : l < 16) :
    ((if b / 16 = h then 1 else 0 : EReal) * (if b % 16 = l then 1 else 0 : EReal)) = (((if b = 16 * h + l then 1 else 0 : ℝ)) : EReal) := by
  by_cases e : b = 16 * h + l
  · rw [if_pos (by omega), if_pos (by omega), if_pos e]; simp
  · rw [if_neg e]
    by_cases e1 : b / 16 = h
    · rw [if_neg (show ¬ b % 16 = l by omega)]; simp
    · rw [if_neg e1]; simp

/-! ## The rows' ends -/

variable (x : Vec Ideal S1x16x262144 .f32)

/-- Entry `n` of row `s`, as a probability. -/
def ent (s : Fin 16) (n : Fin 262144) : ℝ := sig (x (ix3 (0 : Fin 1) s n))

/-- A row's entry in the flattened block. -/
theorem pay2_at (s : Fin 16) (n : Fin 262144) : k0_pay2 x (ix2 s n) = x (ix3 (0 : Fin 1) s n) := by
  unfold_payloads
  pointwise

/-- The least logit of every row. -/
def rowMin (v : FVec Ideal S16x262144 .f32) : FVec Ideal S16 .f32 := multiReduction .minimumf [1] S16 v 0x7F800000#32 reduces_S16x262144_S16 (.inl rfl) rfl

/-- The greatest logit of every row. -/
def rowMax (v : FVec Ideal S16x262144 .f32) : FVec Ideal S16 .f32 := multiReduction .maximumf [1] S16 v 0xFF800000#32 reduces_S16x262144_S16 (.inl rfl) rfl

theorem rowMin_at (v : FVec Ideal S16x262144 .f32) (s : Fin 16) :
    rowMin v (ix1 s) = Finset.univ.fold min (Ideal.ofBits FTy.f32 2139095040#32) fun n => v (ix2 s n) := by
  unfold rowMin
  pointwise

theorem rowMax_at (v : FVec Ideal S16x262144 .f32) (s : Fin 16) :
    rowMax v (ix1 s) = Finset.univ.fold max (Ideal.ofBits FTy.f32 4286578688#32) fun n => v (ix2 s n) := by
  unfold rowMax
  pointwise

/-- A column of probabilities from a list of logits. -/
def column (v : FVec Ideal S16 .f32) : FVec Ideal S16x1 .f32 := logistic (shapeCast S16x1 v shapeCasts_S16_S16x1)

theorem column_at (v : FVec Ideal S16 .f32) (s : Fin 16) : column v (ix2 s (0 : Fin 1)) = Ideal.logistic (v (ix1 s)) := by
  unfold column
  pointwise

theorem pay3_eq : k0_pay3 x = column (rowMin (k0_pay2 x)) := rfl

/-- A difference of columns, entry by entry. -/
theorem subf_at (a b : FVec Ideal S16x1 .f32) (i : S16x1.Idx) : subf a b i = a i - b i := rfl

theorem pay4_eq : k0_pay4 x = subf (column (rowMax (k0_pay2 x))) (k0_pay3 x) := rfl

/-- Each row's least probability. -/
theorem pay3_at (s : Fin 16) : k0_pay3 x (ix2 s (0 : Fin 1)) = ((lowest (ent x s) : ℝ) : EReal) := by
  rw [pay3_eq, column_at, rowMin_at, logistic_eq, f32_top]
  simp only [pay2_at]
  rw [sig_fold_min]
  rfl

/-- Each row's span. -/
theorem pay4_at (s : Fin 16) : k0_pay4 x (ix2 s (0 : Fin 1)) = ((highest (ent x s) - lowest (ent x s) : ℝ) : EReal) := by
  rw [pay4_eq]
  rw [subf_at, pay3_at, column_at, rowMax_at, logistic_eq, f32_bot]
  simp only [pay2_at]
  rw [sig_fold_max, EReal.coe_sub]
  rfl

/-- The scale of a span. -/
def scaleOf (w : FVec Ideal S16x1 .f32) : FVec Ideal S16x1 .f32 :=
  select (cmpf .ogt w (broadcast S16x1 (Scalar.ofBits .f32 0x00000000#32))) (divf (broadcast S16x1 (Scalar.ofBits .f32 0x43800000#32)) w)
    (broadcast S16x1 (Scalar.ofBits .f32 0x00000000#32))

theorem pay5_eq : k0_pay5 x = scaleOf (k0_pay4 x) := rfl

theorem scaleOf_at (w : FVec Ideal S16x1 .f32) (s : Fin 16) (r : ℝ) (h : w (ix2 s (0 : Fin 1)) = ((r : ℝ) : EReal)) :
    scaleOf w (ix2 s (0 : Fin 1)) = ((scale r : ℝ) : EReal) := by
  unfold scaleOf
  pointwise
  rw [h, f32_256, scale_coe]

/-- Each row's scale. -/
theorem pay5_at (s : Fin 16) : k0_pay5 x (ix2 s (0 : Fin 1)) = ((scale (highest (ent x s) - lowest (ent x s)) : ℝ) : EReal) := by
  rw [pay5_eq]
  exact scaleOf_at _ _ _ (pay4_at x s)

end Cert.Proof.Thresh
end
-- ==== Proof.ChunkRead.lean ====
/- The accumulator of the threshold launch holds, in its diagonal blocks, how many entries of a sample's row lie in every bin. -/
module
public import proofs.«01_k».proof.Proof.RowEnds
public import Idealize.ShloMosaic.Lib.Pointwise

@[expose] public section

set_option maxRecDepth 16384

noncomputable section

namespace Cert.Proof.Thresh

open Cert.KernelIdeal Cert.KernelIdeal.Gen
open Idealize.ShloMosaic Idealize.ShloMosaic.TcCoe Idealize.ShloMosaic.Tactic
open Cert.Proof.Otsu

variable (x : Vec Ideal S1x16x262144 .f32)

/-- A sum of reals among the extended reals. -/
theorem coe_sum {ι : Type} (t : Finset ι) (f : ι → ℝ) : ((∑ i ∈ t, f i : ℝ) : EReal) = ∑ i ∈ t, ((f i : ℝ) : EReal) := by
  classical
  induction t using Finset.induction_on with
  | empty => simp
  | insert a t ha ih => rw [Finset.sum_insert ha, Finset.sum_insert ha, EReal.coe_add, ih]

/-- An entry's bin, as the launch computes it. -/
theorem clip_bin {ι : Type} (q : ι → ℝ) (mn sc : ℝ) (n : ι) (h : mn ≤ q n) (hs : 0 ≤ sc) :
    min (((255 : ℝ) : ℝ) : EReal) (max 0 (Ideal.liftRound Int.floor ((((q n : ℝ) : EReal) - ((mn : ℝ) : EReal)) * ((sc : ℝ) : EReal))))
      = (((bin q mn sc n : ℕ) : ℝ) : EReal) := by
  rw [← EReal.coe_sub, ← EReal.coe_mul, clip_floor _ (mul_nonneg (sub_nonneg.mpr h) hs)]
  rfl

/-! ## One chunk -/

set_option maxHeartbeats 1000000 in
/-- What one chunk adds to a cell. -/
theorem step_at (mn sc : FVec Ideal S16x1 .f32) (y : Vec Ideal S1x16x8192 .f32) (A : FVec Ideal S256x256 .f32) (i j : Fin 256) :
    k0_pay151 (k0_pay150 mn sc k0_pay7 y A) (ix2 i j) = A (ix2 i j) + ∑ k : Fin 8192,
      (if Ideal.liftRound Int.floor (min (Ideal.ofBits FTy.f32 1132396544#32) (max 0 (Ideal.liftRound Int.floor
          ((Ideal.logistic (y (ix3 (0 : Fin 1) (⟨i.val / 16, by omega⟩ : Fin 16) k)) - mn (ix2 (⟨i.val / 16, by omega⟩ : Fin 16) (0 : Fin 1)))
            * sc (ix2 (⟨i.val / 16, by omega⟩ : Fin 16) (0 : Fin 1))))) * Ideal.ofBits FTy.f32 1031798784#32)
          = (((i.val % 16 : ℕ) : ℝ) : EReal) then 1 else 0)
      * (if min (Ideal.ofBits FTy.f32 1132396544#32) (max 0 (Ideal.liftRound Int.floor
            ((Ideal.logistic (y (ix3 (0 : Fin 1) (⟨j.val / 16, by omega⟩ : Fin 16) k)) - mn (ix2 (⟨j.val / 16, by omega⟩ : Fin 16) (0 : Fin 1)))
              * sc (ix2 (⟨j.val / 16, by omega⟩ : Fin 16) (0 : Fin 1)))))
          - Ideal.ofBits FTy.f32 1098907648#32 * Ideal.liftRound Int.floor (min (Ideal.ofBits FTy.f32 1132396544#32) (max 0 (Ideal.liftRound Int.floor
            ((Ideal.logistic (y (ix3 (0 : Fin 1) (⟨j.val / 16, by omega⟩ : Fin 16) k)) - mn (ix2 (⟨j.val / 16, by omega⟩ : Fin 16) (0 : Fin 1)))
              * sc (ix2 (⟨j.val / 16, by omega⟩ : Fin 16) (0 : Fin 1))))) * Ideal.ofBits FTy.f32 1031798784#32)
          = (((j.val % 16 : ℕ) : ℝ) : EReal) then 1 else 0) := by
  unfold_payloads
  pointwise
  simp only [sitofp_small _ _ (show i.val % 16 < 2147483648 by omega), sitofp_small _ _ (show j.val % 16 < 2147483648 by omega)]

/-- Lane `k` of chunk `n`. -/
theorem chunk_at (n : ℕ) (h : n < 32) (s : Fin 16) (k : Fin 8192) :
    chunk x n (ix3 (0 : Fin 1) s k) = x (ix3 (0 : Fin 1) s (⟨8192 * n + k.val, by omega⟩ : Fin 262144)) := by
  unfold chunk
  rw [dif_pos h]
  pointwise

/-- The sum over the first `n` chunks of the entries in bin `b`. -/
def part (s : Fin 16) (b n : ℕ) : ℝ :=
  ∑ c ∈ Finset.range n, ∑ k : Fin 8192, if h : 8192 * c + k.val < 262144 then
    (if bin (ent x s) (lowest (ent x s)) (scale (highest (ent x s) - lowest (ent x s))) ⟨8192 * c + k.val, h⟩ = b then 1 else 0) else 0

theorem part_succ (s : Fin 16) (b n : ℕ) : part x s b (n + 1) = part x s b n + ∑ k : Fin 8192, if h : 8192 * n + k.val < 262144 then
    (if bin (ent x s) (lowest (ent x s)) (scale (highest (ent x s) - lowest (ent x s))) ⟨8192 * n + k.val, h⟩ = b then 1 else 0) else 0 :=
  Finset.sum_range_succ _ n

/-- Each diagonal block counts, chunk by chunk. -/
theorem accum_at (s h l : Fin 16) : ∀ n ≤ 32,
    accum x n (ix2 (⟨16 * s.val + h.val, by omega⟩ : Fin 256) (⟨16 * s.val + l.val, by omega⟩ : Fin 256)) = ((part x s (16 * h.val + l.val) n : ℝ) : EReal)
  | 0, _ => by
    show k0_pay6 (ix2 _ _) = _
    unfold_payloads
    pointwise
    simp [part]
  | n + 1, hn => by
    have ih := accum_at s h l n (by omega)
    show k0_pay151 (k0_pay150 (k0_pay3 x) (k0_pay5 x) k0_pay7 (chunk x n) (accum x n)) (ix2 _ _) = _
    rw [step_at, ih]
    have e1 : ∀ a : Fin 16, (⟨(16 * s.val + a.val) / 16, by omega⟩ : Fin 16) = s := fun a => Fin.ext (by show (16 * s.val + a.val) / 16 = s.val; omega)
    have e2 : ∀ a : Fin 16, (16 * s.val + a.val) % 16 = a.val := fun a => by omega
    simp only [e1, e2, pay3_at, pay5_at, chunk_at x n (by omega)]
    rw [part_succ, EReal.coe_add]
    congr 1
    rw [coe_sum]
    refine Finset.sum_congr rfl fun k _ => ?_
    have hk : 8192 * n + k.val < 262144 := by omega
    have hx : Ideal.logistic (x (ix3 (0 : Fin 1) s (⟨8192 * n + k.val, hk⟩ : Fin 262144))) = ((ent x s ⟨8192 * n + k.val, hk⟩ : ℝ) : EReal) :=
      logistic_eq _
    rw [dif_pos hk, hx, f32_255, f32_16th, f32_16, clip_bin _ _ _ _ (lowest_le (ent x s) _) (scale_nonneg _), high_digit, low_digit]
    simp only [nat_coe_inj]
    exact cell_eq _ _ _ l.isLt

/-- All chunks together count the whole row. -/
theorem part_all (s : Fin 16) (b : ℕ) :
    part x s b 32 = cnt (ent x s) (lowest (ent x s)) (scale (highest (ent x s) - lowest (ent x s))) b := by
  unfold part cnt
  rw [← Fin.sum_univ_eq_sum_range (fun c => ∑ k : Fin 8192, if h : 8192 * c + k.val < 262144 then
    (if bin (ent x s) (lowest (ent x s)) (scale (highest (ent x s) - lowest (ent x s))) ⟨8192 * c + k.val, h⟩ = b then (1 : ℝ) else 0) else 0) 32,
    ← Fintype.sum_prod_type']
  refine Fintype.sum_equiv (finProdFinEquiv.trans (finCongr (by norm_num))) _ _ fun p => ?_
  have hv : ((finProdFinEquiv.trans (finCongr (by norm_num : 32 * 8192 = 262144))) p) = ⟨8192 * p.1.val + p.2.val, by omega⟩ :=
    Fin.ext (by show p.2.val + 8192 * p.1.val = 8192 * p.1.val + p.2.val; omega)
  rw [hv, dif_pos (show 8192 * p.1.val + p.2.val < 262144 by omega)]

/-- Sample `s`'s block of the finished accumulator is its histogram. -/
theorem diag_at (s h l : Fin 16) : diag (accum x 32) s (ix2 h l)
    = ((cnt (ent x s) (lowest (ent x s)) (scale (highest (ent x s) - lowest (ent x s))) (16 * h.val + l.val) : ℝ) : EReal) := by
  rw [← part_all, ← accum_at x s h l 32 le_rfl]
  unfold diag
  pointwise

end Cert.Proof.Thresh
end
-- ==== Proof.SampleRead.lean ====
/- One sample's threshold in the threshold launch, from its 16 by 16 histogram: running sums, the variance between the classes,
   the first greatest one and the bin's centre. -/
module
public import proofs.«01_k».proof.Proof.ChunkRead

@[expose] public section

set_option maxRecDepth 16384

noncomputable section

namespace Cert.Proof.Thresh

open Cert.KernelIdeal Cert.KernelIdeal.Gen
open Idealize.ShloMosaic Idealize.ShloMosaic.TcCoe Idealize.ShloMosaic.Tactic
open Cert.Proof.Otsu

/-! ## The stages -/

/-- Running sums along every row of 16. -/
def runRow (v : FVec Ideal S16x16 .f32) : FVec Ideal S16x16 .f32 :=
  matmul dot_S16x16_S16x16_S16x16_1_0_0_1_n_n none v (k0_pay158 (F := Ideal)) (constant S16x16 .f32 0x00000000#32)

/-- The sums of the rows above. -/
def rowsAbove (v : FVec Ideal S16x16 .f32) : FVec Ideal S16x1 .f32 :=
  matmul dot_S16x16_S16x1_S16x1_1_0_0_1_n_n none (k0_pay159 (F := Ideal)) (extractStridedSlice S16x1 ![0, 15] v slices_S16x16_o0_15_S16x1)
    (constant S16x1 .f32 0x00000000#32)

/-- Running sums over all 256 cells. -/
def runAll (v : FVec Ideal S16x16 .f32) : FVec Ideal S16x16 .f32 :=
  addf (runRow v) (broadcastTo S16x16 (rowsAbove (runRow v)) broadcasts_S16x1_S16x16)

/-- What the running sums leave of the whole. -/
def rest (v : FVec Ideal S16x16 .f32) : FVec Ideal S16x16 .f32 :=
  subf (broadcastTo S16x16 (extractStridedSlice S1x1 ![15, 15] v slices_S16x16_o15_15_S1x1) broadcasts_S1x1_S16x16) v

/-- The variance between the classes at every cell, and -1 at the last one. -/
def scores (key a a' b b' : FVec Ideal S16x16 .f32) : FVec Ideal S16x16 .f32 :=
  select (cmpf .oge key (broadcast S16x16 (Scalar.ofBits .f32 0x437F0000#32))) (broadcast S16x16 (Scalar.ofBits .f32 0xBF800000#32))
    (mulf (mulf (mulf a a') (subf (divf b a) (divf b' a'))) (subf (divf b a) (divf b' a')))

/-- The greatest of 256 numbers. -/
def greatest (v : FVec Ideal S16x16 .f32) : Ideal .f32 :=
  extractAt ![0, 0, 0] (shapeCast S1x1x1 (multiReduction .maximumf [1, 2] S1 (shapeCast S1x16x16 v shapeCasts_S16x16_S1x16x16) 0xFF800000#32
    reduces_S1x16x16_S1 (.inl rfl) rfl) shapeCasts_S1_S1x1x1) inpos_S1x1x1_p0_0_0

/-- The least of 256 numbers. -/
def smallest (v : FVec Ideal S16x16 .f32) : Ideal .f32 :=
  extractAt ![0, 0, 0] (shapeCast S1x1x1 (multiReduction .minimumf [1, 2] S1 (shapeCast S1x16x16 v shapeCasts_S16x16_S1x16x16) 0x7F800000#32
    reduces_S1x16x16_S1 (.inl rfl) rfl) shapeCasts_S1_S1x1x1) inpos_S1x1x1_p0_0_0

/-- The keys of the cells that hold `m`, and 256 elsewhere. -/
def holders (key v : FVec Ideal S16x16 .f32) (m : Ideal .f32) : FVec Ideal S16x16 .f32 :=
  select (cmpf .oeq v (broadcast S16x16 m)) key (broadcast S16x16 (Scalar.ofBits .f32 0x43800000#32))

/-- The centre of bin `m` on every lane. -/
def centre (mn span : FVec Ideal S1x1 .f32) (m : Ideal .f32) : FVec Ideal S1x128 .f32 :=
  broadcastTo S1x128 (shapeCast S1x1 (addf mn (mulf (broadcast S1x1 (Scalar.addf m (Scalar.ofBits .f32 0x3F000000#32)))
    (divf span (broadcast S1x1 (Scalar.ofBits .f32 0x43800000#32))))) shapeCasts_S1x1_S1x1) broadcasts_S1x1_S1x128

/-- The variances from the histogram and the weighted centres. -/
def scoresOf (hs w : FVec Ideal S16x16 .f32) : FVec Ideal S16x16 .f32 :=
  scores (k0_pay160 (F := Ideal)) (runAll hs) (rest (runAll hs)) (runAll w) (rest (runAll w))

/-- The first cell of greatest variance. -/
def firstOf (v : FVec Ideal S16x16 .f32) : Ideal .f32 := smallest (holders (k0_pay160 (F := Ideal)) v (greatest v))

theorem otsu_eq (hs : FVec Ideal S16x16 .f32) (mn span : FVec Ideal S1x1 .f32) :
    otsu hs mn span = centre mn span (firstOf (scoresOf hs (weighted hs mn span))) := rfl

/-! ## The stages at a cell -/

/-- A choice by a comparison of two small numbers. -/
theorem select_sle (a b : Fin 16) (x y : EReal) :
    Scalar.select (IntOp.cmpi .sle (BitVec.ofNat 32 a.val) (BitVec.ofNat 32 b.val)) x y = if a ≤ b then x else y := by
  have e : ∀ a b : Fin 16, IntOp.cmpi .sle (BitVec.ofNat 32 a.val) (BitVec.ofNat 32 b.val) = if a ≤ b then 1#1 else 0#1 := by decide
  rw [e]
  split <;> simp [Scalar.select]

theorem select_slt (a b : Fin 16) (x y : EReal) :
    Scalar.select (IntOp.cmpi .slt (BitVec.ofNat 32 a.val) (BitVec.ofNat 32 b.val)) x y = if a < b then x else y := by
  have e : ∀ a b : Fin 16, IntOp.cmpi .slt (BitVec.ofNat 32 a.val) (BitVec.ofNat 32 b.val) = if a < b then 1#1 else 0#1 := by decide
  rw [e]
  split <;> simp [Scalar.select]

/-- A choice between a real and zero. -/
theorem coe_ite (p : Prop) [Decidable p] (a : ℝ) : (if p then ((a : ℝ) : EReal) else 0) = ((if p then a else 0 : ℝ) : EReal) := by
  split <;> simp

/-- A table of 256 reals in 16 rows. -/
def Holds (v : FVec Ideal S16x16 .f32) (f : ℕ → ℝ) : Prop := ∀ i j : Fin 16, v (ix2 i j) = ((f (16 * i.val + j.val) : ℝ) : EReal)

theorem runRow_at (v : FVec Ideal S16x16 .f32) (f : ℕ → ℝ) (h : Holds v f) (i j : Fin 16) :
    runRow v (ix2 i j) = ((∑ b : Fin 16, if b ≤ j then f (16 * i.val + b.val) else 0 : ℝ) : EReal) := by
  unfold runRow
  unfold_payloads
  pointwise
  rw [coe_sum]
  refine Finset.sum_congr rfl fun b _ => ?_
  rw [select_sle, h, coe_ite]

theorem rowsAbove_at (v : FVec Ideal S16x16 .f32) (f : Fin 16 → ℝ) (h : ∀ a, v (ix2 a (15 : Fin 16)) = ((f a : ℝ) : EReal)) (i : Fin 16) :
    rowsAbove v (ix2 i (0 : Fin 1)) = ((∑ a : Fin 16, if a < i then f a else 0 : ℝ) : EReal) := by
  unfold rowsAbove
  unfold_payloads
  pointwise
  rw [coe_sum]
  refine Finset.sum_congr rfl fun a _ => ?_
  rw [select_slt, h, coe_ite]

theorem bcast_at (v : FVec Ideal S16x16 .f32) (w : FVec Ideal S16x1 .f32) (i j : Fin 16) :
    addf v (broadcastTo S16x16 w broadcasts_S16x1_S16x16) (ix2 i j) = v (ix2 i j) + w (ix2 i (0 : Fin 1)) := by
  pointwise

/-- The running sums over all cells are the sums below. -/
theorem runAll_holds (v : FVec Ideal S16x16 .f32) (f : ℕ → ℝ) (h : Holds v f) : Holds (runAll v) (below f) := fun i j => by
  unfold runAll
  rw [bcast_at, runRow_at v f h, rowsAbove_at (runRow v) (fun a => ∑ b : Fin 16, f (16 * a.val + b.val)) (fun a => ?_), ← EReal.coe_add, below_rows]
  rw [runRow_at v f h]
  exact congrArg _ (Finset.sum_congr rfl fun b _ => if_pos (Fin.le_last b))

/-- What they leave of the whole is the sums above. -/
theorem rest_holds (v : FVec Ideal S16x16 .f32) (f : ℕ → ℝ) (h : Holds v (below f)) : Holds (rest v) (above f) := fun i j => by
  unfold rest
  pointwise
  rw [h, h, ← EReal.coe_sub]
  exact congrArg _ (above_eq f _ (by omega))

theorem key_holds : Holds (k0_pay160 (F := Ideal)) (fun k => (k : ℝ)) := fun i j => by
  unfold_payloads
  pointwise
  rw [f32_16, sitofp_small _ _ (by omega), sitofp_small _ _ (by omega), ← EReal.coe_mul, ← EReal.coe_add]
  push_cast
  rfl

/-- The weighted centres. -/
theorem weighted_holds (hs : FVec Ideal S16x16 .f32) (mn span : FVec Ideal S1x1 .f32) (f : ℕ → ℝ) (m s : ℝ) (h : Holds hs f)
    (hm : mn (ix2 (0 : Fin 1) (0 : Fin 1)) = ((m : ℝ) : EReal)) (hsp : span (ix2 (0 : Fin 1) (0 : Fin 1)) = ((s : ℝ) : EReal)) :
    Holds (weighted hs mn span) (fun k => f k * ctr m s k) := fun i j => by
  unfold weighted
  unfold_payloads
  pointwise
  rw [hm, hsp, h, f32_16, f32_256, f32_half, sitofp_small _ _ (by omega), sitofp_small _ _ (by omega), div_real _ _ (by norm_num),
    ← EReal.coe_mul, ← EReal.coe_add, ← EReal.coe_add, ← EReal.coe_mul, ← EReal.coe_add, ← EReal.coe_mul]
  congr 1
  unfold ctr
  push_cast
  rfl

/-- The variances, and -1 at the last cell. -/
theorem scores_holds (key a a' b b' : FVec Ideal S16x16 .f32) (f g : ℕ → ℝ) (hk : Holds key (fun k => (k : ℝ))) (ha : Holds a (below f))
    (ha' : Holds a' (above f)) (hb : Holds b (below g)) (hb' : Holds b' (above g)) (p : ∀ k < 255, 0 < below f k) (p' : ∀ k < 255, 0 < above f k) :
    Holds (scores key a a' b b') (fun k => if k < 255 then between f g k else -1) := fun i j => by
  unfold scores
  pointwise
  rw [hk, ha, ha', hb, hb', f32_255, f32_neg_one]
  by_cases h : 16 * i.val + j.val < 255
  · rw [if_neg, if_pos h, div_real _ _ (p _ h).ne', div_real _ _ (p' _ h).ne', ← EReal.coe_mul, ← EReal.coe_sub, ← EReal.coe_mul, ← EReal.coe_mul]
    · rfl
    · rw [EReal.coe_le_coe_iff, not_le]
      show ((16 * i.val + j.val : ℕ) : ℝ) < 255
      exact_mod_cast h
  · rw [if_pos, if_neg h]
    rw [EReal.coe_le_coe_iff]
    show (255 : ℝ) ≤ ((16 * i.val + j.val : ℕ) : ℝ)
    exact_mod_cast not_lt.mp h

/-- The first cell that holds the greatest number. -/
theorem firstOf_at (v : FVec Ideal S16x16 .f32) (V : ℕ → ℝ) (h : Holds v V) (K : ℕ) (hK : K < 256) (hmax : ∀ k < 256, V k ≤ V K)
    (hfirst : ∀ k < K, V k < V K) : firstOf v = (((K : ℕ) : ℝ) : EReal) := by
  have hcell : 16 * (K / 16) + K % 16 = K := Nat.div_add_mod K 16
  have hg : greatest v = ((V K : ℝ) : EReal) := by
    unfold greatest
    pointwise
    rw [f32_bot]
    apply le_antisymm
    · refine (Finset.fold_max_le _).mpr ⟨bot_le, fun p _ => ?_⟩
      rw [h, EReal.coe_le_coe_iff]
      exact hmax _ (by omega)
    · refine (Finset.le_fold_max _).mpr (.inr ⟨(⟨K / 16, by omega⟩, ⟨K % 16, by omega⟩), Finset.mem_univ _, ?_⟩)
      rw [h]
      show _ ≤ ((V (16 * (K / 16) + K % 16) : ℝ) : EReal)
      rw [hcell]
  have hh : ∀ i j : Fin 16, holders (k0_pay160 (F := Ideal)) v (greatest v) (ix2 i j)
      = if V (16 * i.val + j.val) = V K then ((((16 * i.val + j.val : ℕ)) : ℝ) : EReal) else ((256 : ℝ) : EReal) := fun i j => by
    rw [hg]
    generalize hkey : k0_pay160 (F := Ideal) = key
    unfold holders
    pointwise
    rw [h, ← hkey, key_holds, f32_256]
    simp only [EReal.coe_eq_coe_iff]
  unfold firstOf
  generalize holders (k0_pay160 (F := Ideal)) v (greatest v) = w at hh ⊢
  unfold smallest
  pointwise
  rw [f32_top]
  apply le_antisymm
  · refine (Finset.fold_min_le _).mpr (.inr ⟨(⟨K / 16, by omega⟩, ⟨K % 16, by omega⟩), Finset.mem_univ _, ?_⟩)
    rw [hh]
    show (if V (16 * (K / 16) + K % 16) = V K then (((16 * (K / 16) + K % 16 : ℕ) : ℝ) : EReal) else _) ≤ _
    rw [hcell, if_pos rfl]
  · refine (Finset.le_fold_min _).mpr ⟨le_top, fun p _ => ?_⟩
    rw [hh]
    split
    · next e =>
      rw [EReal.coe_le_coe_iff, Nat.cast_le]
      by_contra hc
      exact absurd e (hfirst _ (not_le.mp hc)).ne
    · rw [EReal.coe_le_coe_iff]
      exact_mod_cast hK.le

theorem centre_at (mn span : FVec Ideal S1x1 .f32) (m : Ideal .f32) (l : Fin 128) : centre mn span m (ix2 (0 : Fin 1) l)
    = mn (ix2 (0 : Fin 1) (0 : Fin 1)) + (m + Ideal.ofBits FTy.f32 1056964608#32)
      * Ideal.div (span (ix2 (0 : Fin 1) (0 : Fin 1))) (Ideal.ofBits FTy.f32 1132462080#32) := by
  unfold centre
  pointwise

/-- A sample's threshold. -/
theorem otsu_at {ι : Type} [Fintype ι] [Nonempty ι] (q : ι → ℝ) (hs : FVec Ideal S16x16 .f32) (mn span : FVec Ideal S1x1 .f32)
    (hm : mn (ix2 (0 : Fin 1) (0 : Fin 1)) = ((lowest q : ℝ) : EReal))
    (hsp : span (ix2 (0 : Fin 1) (0 : Fin 1)) = ((highest q - lowest q : ℝ) : EReal))
    (hh : Holds hs (cnt q (lowest q) (scale (highest q - lowest q)))) (l : Fin 128) :
    otsu hs mn span (ix2 (0 : Fin 1) l) = ((cut q : ℝ) : EReal) := by
  rw [otsu_eq, centre_at, hm, hsp, f32_256, f32_half, div_real _ _ (by norm_num)]
  unfold cut threshold
  by_cases hpos : 0 < highest q - lowest q
  · rw [if_pos hpos]
    generalize hf : cnt q (lowest q) (scale (highest q - lowest q)) = f at hh ⊢
    have h0 : ∀ k, 0 ≤ f k := fun k => hf ▸ cnt_nonneg _ _ _ k
    obtain ⟨n, hn⟩ := exists_lowest q
    obtain ⟨n', hn'⟩ := exists_highest q
    have hF : 0 < f 0 := hf ▸ cnt_first q _ _ n hn
    have hL : 0 < f 255 := hf ▸ cnt_last q _ _ n' (by rw [hn']) hpos
    have hb : ∀ k < 255, 0 < below f k := fun k _ => below_pos f h0 hF k
    have ha : ∀ k < 255, 0 < above f k := fun k hk => above_pos f h0 hL k hk
    have hw := weighted_holds hs mn span f _ _ hh hm hsp
    have hsc := scores_holds _ _ _ _ _ f (fun k => f k * ctr (lowest q) (highest q - lowest q) k) key_holds (runAll_holds hs f hh)
      (rest_holds _ f (runAll_holds hs f hh)) (runAll_holds _ _ hw) (rest_holds _ _ (runAll_holds _ _ hw)) hb ha
    have hK := pickBin_spec f (fun k => f k * ctr (lowest q) (highest q - lowest q) k)
    generalize pickBin f (fun k => f k * ctr (lowest q) (highest q - lowest q) k) = K at hK ⊢
    rw [firstOf_at (scoresOf hs (weighted hs mn span)) _ hsc K (by have := hK.1; omega) (fun k hk => ?_) (fun k hk => ?_), ← EReal.coe_add,
      ← EReal.coe_mul, ← EReal.coe_add]
    · rfl
    · show (if k < 255 then _ else _) ≤ if K < 255 then _ else _
      rw [if_pos hK.1]
      split
      · next h => exact hK.2.1 k h
      · have := between_nonneg f (fun k => f k * ctr (lowest q) (highest q - lowest q) k) K (hb K hK.1) (ha K hK.1)
        linarith
    · show (if k < 255 then _ else _) < if K < 255 then _ else _
      rw [if_pos hK.1, if_pos (by have := hK.1; omega)]
      exact hK.2.2 k hk
  · rw [if_neg hpos]
    have e : highest q - lowest q = 0 := le_antisymm (not_lt.mp hpos) (lowest_le_highest q)
    rw [e, zero_div, EReal.coe_zero, mul_zero, add_zero]

/-! ## The launch's row of thresholds -/

variable (x : Vec Ideal S1x16x262144 .f32)

theorem pick_at (v : FVec Ideal S16x1 .f32) (s : Fin 16) : pick v s (ix2 (0 : Fin 1) (0 : Fin 1)) = v (ix2 s (0 : Fin 1)) := by
  unfold pick
  pointwise

/-- Sample `s`'s threshold, on every lane. -/
theorem sample_at (s : Fin 16) (l : Fin 128) :
    otsu (diag (accum x 32) s) (pick (k0_pay3 x) s) (pick (k0_pay4 x) s) (ix2 (0 : Fin 1) l) = ((cut (ent x s) : ℝ) : EReal) :=
  otsu_at (ent x s) _ _ _ (by rw [pick_at, pay3_at]) (by rw [pick_at, pay4_at]) (fun i j => diag_at x s i j) l

theorem put_at (a b : FVec Ideal S1x128 .f32) (n : ℕ) (l : Fin 128) :
    addf a (select (cmpi .eq lanes (broadcast S1x128 (BitVec.ofNat 32 n))) b (broadcast S1x128 (Scalar.ofBits .f32 0x00000000#32))) (ix2 (0 : Fin 1) l)
      = a (ix2 (0 : Fin 1) l) + Scalar.select (IntOp.cmpi .eq (BitVec.ofNat 32 l.val) (BitVec.ofNat 32 n)) (b (ix2 (0 : Fin 1) l)) 0 := by
  pointwise [lanes]

theorem select_eq (a n : ℕ) (ha : a < 128) (hn : n < 128) (x y : EReal) :
    Scalar.select (IntOp.cmpi .eq (BitVec.ofNat 32 a) (BitVec.ofNat 32 n)) x y = if a = n then x else y := by
  have e : ((BitVec.ofNat 32 a == BitVec.ofNat 32 n) = true) ↔ a = n := by
    rw [beq_iff_eq, ← BitVec.toNat_inj, BitVec.toNat_ofNat, BitVec.toNat_ofNat, Nat.mod_eq_of_lt (by omega), Nat.mod_eq_of_lt (by omega)]
  show Scalar.select (BitVec.ofBool (BitVec.ofNat 32 a == BitVec.ofNat 32 n)) x y = _
  by_cases h : a = n
  · rw [if_pos h, e.mpr h]; rfl
  · rw [if_neg h, (Bool.eq_false_iff.mpr (fun h' => h (e.mp h')))]; rfl

/-- After `n` samples the lanes below `n` hold their samples' thresholds and the others zero. -/
theorem rowOf_at (s : Fin 16) (l : Fin 128) (hl : l.val = s.val) : ∀ n ≤ 16,
    rowOf x n (ix2 (0 : Fin 1) l) = if s.val < n then ((cut (ent x s) : ℝ) : EReal) else 0
  | 0, _ => by
    show k0_pay161 (ix2 _ _) = _
    unfold_payloads
    pointwise
    rfl
  | n + 1, hn => by
    have ih := rowOf_at s l hl n (by omega)
    show addf (rowOf x n) (select (cmpi .eq lanes (broadcast S1x128 (BitVec.ofNat 32 n)))
      (if h : n < 16 then otsu (diag (accum x 32) ⟨n, h⟩) (pick (k0_pay3 x) ⟨n, h⟩) (pick (k0_pay4 x) ⟨n, h⟩) else k0_pay161)
      (broadcast S1x128 (Scalar.ofBits .f32 0x00000000#32))) (ix2 (0 : Fin 1) l) = _
    rw [put_at, ih, dif_pos (show n < 16 by omega), sample_at, select_eq _ _ l.isLt (by omega), hl]
    by_cases h : s.val = n
    · rw [if_neg (by omega), if_pos h, if_pos (by omega), zero_add]
      subst h
      rfl
    · rw [if_neg h, add_zero]
      by_cases h' : s.val < n
      · rw [if_pos h', if_pos (by omega)]
      · rw [if_neg h', if_neg (by omega)]

end Cert.Proof.Thresh
end
-- ==== Proof.KernelRun.lean ====
/- The kernel's run with its result: the launch memory's two arguments taken through the reshape, the threshold launch, the
   stretch between, the IoU launch and the mean. -/
module
public import proofs.«01_k».proof.Proof.Region0
public import Idealize.ShloMosaic.Lib.StableHlo.RunRead

@[expose] public section

set_option maxRecDepth 16384

noncomputable section

namespace Cert.Proof.Thresh

open Cert.KernelIdeal Cert.KernelIdeal.Gen
open Idealize.ShloMosaic Idealize.ShloMosaic.TcCoe Idealize.ShloMosaic.Tactic
open Idealize.SL Idealize.SL.RA Idealize.SL.BI
open Idealize.ShloMosaic.Rounds
open scoped Idealize.SL.BI
open Idealize.SL.BI.BIBase Idealize.SL.BI.Laws Idealize.SL.ProofMode Idealize.SL.Sem

variable {F : FTy → Type} [FloatOps F]

/-- Group `g` of a stack of 4 groups of 16 rows. -/
def grp (Y : Vec F S4x16x262144 .f32) (g : Fin 4) : Vec F S1x16x262144 .f32 := fun j => Y (ix3 g (j 1) (j 2))

/-- The threshold launch's result: sample `16 g + s`'s threshold at lane `s` of row `g`. -/
def thArr (Y : Vec F S4x16x262144 .f32) : Vec F S4x1x128 .f32 :=
  fun i => shapeCast S1x1x128 (rowOf (grp Y (i 0)) 16) shapeCasts_S1x128_S1x1x128 (ix3 0 0 (i 2))

/-- Sample `b` of a stack of 64. -/
def smp (Y : Vec F S64x16x16384 .f32) (b : Fin 64) : Vec F S1x16x16384 .f32 := fun j => Y (ix3 b (j 1) (j 2))

/-- The IoU launch's result: sample `b`'s IoU on every lane of row `b`. -/
def iouArr (X T : Vec F S64x16x16384 .f32) (H : Vec F S64x1x128 .f32) : Vec F S64x1x128 .f32 :=
  fun i => k1_pay1 (fun _ => H (ix3 (i 0) 0 0)) (smp X (i 0)) (smp T (i 0)) (ix3 0 0 (i 2))

/-- The thresholds, one per sample on every lane. -/
def thFlat (A : Vec F S4x1x128 .f32) : Vec F S64x1x128 .f32 :=
  broadcastInDim S64x1x128 ![0, 1, 2] bcast_S64x1x1_S64x1x128_0_1_2 (broadcastInDim S64x1x1 ![0] bcast_S64_S64x1x1_0
    (shapeCast S64 (shapeCast S4x16 (extractStridedSlice S4x1x16 ![0, 0, 0] A slices_S4x1x128_S4x1x16_0_0_0) shapeCasts_S4x1x16_S4x16) shapeCasts_S4x16_S64))

/-- The mean of the 64 IoUs. -/
def meanOf (A : Vec F S64x1x128 .f32) : Vec F S_ .f32 :=
  Host.divf (Host.reduceAdd (shapeCast S64 (extractStridedSlice S64x1x1 ![0, 0, 0] A slices_S64x1x128_S64x1x1_0_0_0) shapeCasts_S64x1x1_S64)
    (constant S_ .f32 0x00000000#32) reducesTo_S64_S_d0 h_S_) (constant S_ .f32 0x42800000#32)

/-- The kernel's result from its two arguments. -/
def kernelResult (x t : Vec F S64x1x512x512 .f32) : Vec F S_ .f32 :=
  meanOf (iouArr (shapeCast S64x16x16384 x shapeCasts_S64x1x512x512_S64x16x16384) (shapeCast S64x16x16384 t shapeCasts_S64x1x512x512_S64x16x16384)
    (thFlat (thArr (shapeCast S4x16x262144 x shapeCasts_S64x1x512x512_S4x16x262144))))

section Arrays
variable (V : (c : Dev nD) → (b : Ref sig .tc) → Buf (Elt F) ((c : Thread nD τ).loc b))

/-- Where the blocks of the first launch's windows lie. -/
theorem idx0 : ∀ t : Fin grid0.N, win0_0.index t = ![t.val, 0, 0] ∧ win0_1.index t = ![t.val, 0, 0] := by decide +kernel

/-- Where the blocks of the second launch's windows lie. -/
theorem idx1 : ∀ t : Fin grid1.N, win1_0.index t = ![t.val, 0, 0] ∧ win1_1.index t = ![t.val, 0, 0] ∧ win1_2.index t = ![t.val, 0, 0]
    ∧ win1_3.index t = ![t.val, 0, 0] := by decide +kernel

/-- The rows' block at point `t` is group `t`. -/
theorem iblk0_eq (c : Dev nD) (t : Fin cfg0.N) (h : t.val < 4) : iblk0 V c 0 t = grp (V c main_v0) ⟨t.val, h⟩ := by
  funext y
  unfold grp
  blk_ext [iblk0, (idx0 t).1, (idx0 t).2]

/-- The threshold launch leaves its array. -/
theorem arr0_eq (c : Dev nD) : (dat0 V c).arrAt 1 cfg0.N = thArr (V c main_v0) := by
  refine (dat0 V c).arrAt_eq_of_covers 1 _ (by decide +kernel) fun t hf y => ?_
  blk_simp
  rw [after0_1, outsAt0_eq]
  have h4 : t.val < 4 := t.isLt
  rw [iblk0_eq V c t h4]
  have e : ((cfg0.win 1).blk t).view.emb y = ix3 (⟨t.val, h4⟩ : Fin 4) (0 : Fin 1) (y 2) := by
    blk_ext [(idx0 t).1, (idx0 t).2]
  have ey : y = ix3 (0 : Fin 1) (0 : Fin 1) (y 2) := by blk_ext
  show _ = thArr (V c main_v0) (((cfg0.win 1).blk t).view.emb y)
  rw [e]
  exact congrArg _ ey

/-- The IoU launch leaves its array. -/
theorem arr1_eq (c : Dev nD) : (dat1 V c).arrAt 3 cfg1.N = iouArr (V c main_v7) (V c main_v8) (V c main_v6) := by
  refine (dat1 V c).arrAt_eq_of_covers 3 _ (by decide +kernel) fun t hf y => ?_
  blk_simp
  rw [after1_3]
  frame_out
  have h64 : t.val < 64 := t.isLt
  have e : ((cfg1.win 3).blk t).view.emb y = ix3 (⟨t.val, h64⟩ : Fin 64) (0 : Fin 1) (y 2) := by
    blk_ext [(idx1 t).1, (idx1 t).2.1, (idx1 t).2.2.1, (idx1 t).2.2.2]
  have ey : y = ix3 (0 : Fin 1) (0 : Fin 1) (y 2) := by blk_ext
  show _ = iouArr (V c main_v7) (V c main_v8) (V c main_v6) (((cfg1.win 3).blk t).view.emb y)
  rw [e]
  have h0 : iblk1 V c 0 t = smp (V c main_v7) ⟨t.val, h64⟩ := by
    funext y
    unfold smp
    blk_ext [iblk1, (idx1 t).1]
  have h1 : iblk1 V c 1 t = smp (V c main_v8) ⟨t.val, h64⟩ := by
    funext y
    unfold smp
    blk_ext [iblk1, (idx1 t).2.1]
  have h2 : View.ld (iblk1 V c 2 t) r1_0 = fun _ => (V c main_v6 : Vec F S64x1x128 .f32) (ix3 (⟨t.val, h64⟩ : Fin 64) (0 : Fin 1) (0 : Fin 128)) := by
    funext z
    rw [View.ld_apply]
    blk_ext [iblk1, (idx1 t).2.2.1]
    rw [Rect.idx_unit_val]
    show 0 + (z 2).val = 0
    omega
  exact (congrFun (congr (congr (congrArg k1_pay1 h2) h0) h1) y).trans (congrArg _ ey)
end Arrays

variable (m : (ℓ : Loc nD τ sig) → Buf (Elt F) ℓ) (ρ : Dev nD → PrngReg)

/-- The first launch finds the rows in their four groups. -/
theorem W1_v0 (c : Dev nD) : V1 m ρ c main_v0 = shapeCast S4x16x262144 (m ((c : Thread nD τ).loc main_arg0)) shapeCasts_S64x1x512x512_S4x16x262144 := by
  show StableHlo.after hostOps0 (W0 m ρ c) (main_v0 : DevRef τ sig) = _
  after_reads_simp; rfl

/-- The second launch finds the scores sample by sample, -/
theorem W3_v7 (c : Dev nD) : V3 m ρ c main_v7 = shapeCast S64x16x16384 (m ((c : Thread nD τ).loc main_arg0)) shapeCasts_S64x1x512x512_S64x16x16384 := by
  show StableHlo.after hostOps1 (W2 m ρ c) (main_v7 : DevRef τ sig) = _
  after_reads_simp
  rw [W2_args m ρ c main_arg0 (by decide)]; rfl

/-- the targets sample by sample, -/
theorem W3_v8 (c : Dev nD) : V3 m ρ c main_v8 = shapeCast S64x16x16384 (m ((c : Thread nD τ).loc main_arg1)) shapeCasts_S64x1x512x512_S64x16x16384 := by
  show StableHlo.after hostOps1 (W2 m ρ c) (main_v8 : DevRef τ sig) = _
  after_reads_simp
  rw [W2_args m ρ c main_arg1 (by decide)]; rfl

/-- and the thresholds the first launch left. -/
theorem W3_v6 (c : Dev nD) : V3 m ρ c main_v6 = thFlat (thArr (V1 m ρ c main_v0)) := by
  show StableHlo.after hostOps1 (W2 m ρ c) (main_v6 : DevRef τ sig) = _
  after_reads_simp
  rw [show W2 m ρ c (main_v1 : DevRef τ sig) = thArr (V1 m ρ c main_v0) from (W2_arr m ρ c 1).trans (arr0_eq (V1 m ρ) c)]
  rfl

/-- The result buffer ends with the kernel's result. -/
theorem W5_v13 (c : Dev nD) : W5 m ρ c (Proc.devRef .tc main_v13)
    = kernelResult (m ((c : Thread nD τ).loc main_arg0)) (m ((c : Thread nD τ).loc main_arg1)) := by
  show StableHlo.after hostOps2 (W4 m ρ c) (main_v13 : DevRef τ sig) = _
  after_reads_simp
  rw [show W4 m ρ c (main_v9 : DevRef τ sig) = iouArr (V3 m ρ c main_v7) (V3 m ρ c main_v8) (V3 m ρ c main_v6) from
    (W4_arr m ρ c 3).trans (arr1_eq (V3 m ρ) c), W3_v7, W3_v8, W3_v6, W1_v0]
  rfl

local notation "𝕄" => MT nD τ sig Unit (Elt F) ℕ (UR sig nD τ) ℕ

set_option backward.isDefEq.respectTransparency.types false in
/-- From any memory with zero counters the kernel ends with its result in the result buffer and its arguments unchanged. -/
theorem run : θ_run defs (onTc (τ := τ) (main (F := F))) ⟨m, fun _ => 0, ρ⟩ (fun r => ∀ c : Dev nD,
      r.2.mem ((c.tc : Thread nD τ).loc main_v13) = kernelResult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v13 (by decide))).trans (W5_v13 m ρ c),
       (h c _ (mem_uc main_arg0 (by decide))).trans (W5_main_arg0 m ρ c),
       (h c _ (mem_uc main_arg1 (by decide))).trans (W5_main_arg1 m ρ c)⟩)

end Cert.Proof.Thresh
end
-- ==== Proof.KernelRead.lean ====
/- The kernel's result, spelt out: the mean over the samples of the smoothed overlap divided by the smoothed union, with every
   sample cut at its Otsu threshold. -/
module
public import proofs.«01_k».proof.Proof.SampleRead
public import proofs.«01_k».proof.Proof.KernelRun

@[expose] public section

set_option maxRecDepth 16384

noncomputable section

namespace Cert.Proof

open Idealize.ShloMosaic Cert.Proof.Otsu

/-- The logits of one sample as probabilities, in the order of its pixels. -/
def pix (x : (⟨4, ![64, 1, 512, 512]⟩ : Shape).Idx → EReal) (b : Fin 64) (n : Fin 262144) : ℝ :=
  sig (x (ix4 b (0 : Fin 1) (⟨n.val / 512, by omega⟩ : Fin 512) (⟨n.val % 512, by omega⟩ : Fin 512)))

/-- One where a pixel's probability is above the threshold `t`, zero elsewhere. -/
def above (x : (⟨4, ![64, 1, 512, 512]⟩ : Shape).Idx → EReal) (t : EReal) (b : Fin 64) (i j : Fin 512) : EReal :=
  if t < Ideal.logistic (x (ix4 b (0 : Fin 1) i j)) then 1 else 0

/-- One sample's overlap ratio from its mask and its target. -/
def ratio (k y : Fin 512 → Fin 512 → EReal) : EReal :=
  Ideal.div ((∑ i, ∑ j, k i j * y i j) + 1) ((∑ i, ∑ j, k i j) + (∑ i, ∑ j, y i j) - (∑ i, ∑ j, k i j * y i j) + 1)

/-- The mean of the samples' overlap ratios, cut at Otsu's thresholds. -/
def meanRatio (x y : (⟨4, ![64, 1, 512, 512]⟩ : Shape).Idx → EReal) : EReal :=
  Ideal.div (∑ b : Fin 64, ratio (above x ((cut (pix x b) : ℝ) : EReal) b) fun i j => y (ix4 b (0 : Fin 1) i j)) (Ideal.ofBits FTy.f32 1115684864#32)

/-- Pixels counted in 16 runs of 16384, or in 512 rows of 512. -/
def pixels : Fin 16 × Fin 16384 ≃ Fin 512 × Fin 512 where
  toFun p := (⟨p.1.val * 32 + p.2.val / 512, by omega⟩, ⟨p.2.val % 512, by omega⟩)
  invFun q := (⟨q.1.val / 32, by omega⟩, ⟨q.1.val % 32 * 512 + q.2.val, by omega⟩)
  left_inv p := Prod.ext (Fin.ext (by show (p.1.val * 32 + p.2.val / 512) / 32 = p.1.val; omega))
    (Fin.ext (by show (p.1.val * 32 + p.2.val / 512) % 32 * 512 + p.2.val % 512 = p.2.val; omega))
  right_inv q := Prod.ext (Fin.ext (by show q.1.val / 32 * 32 + (q.1.val % 32 * 512 + q.2.val) / 512 = q.1.val; omega))
    (Fin.ext (by show (q.1.val % 32 * 512 + q.2.val) % 512 = q.2.val; omega))

/-- A sum over the runs is the sum over the rows. -/
theorem sum_pixels (f : Fin 512 → Fin 512 → EReal) :
    ∑ a : Fin 16, ∑ k : Fin 16384, f ⟨a.val * 32 + k.val / 512, by omega⟩ ⟨k.val % 512, by omega⟩ = ∑ i, ∑ j, f i j := by
  rw [← Fintype.sum_prod_type', ← Fintype.sum_prod_type']
  exact Fintype.sum_equiv pixels _ _ fun p => rfl

/-- The ratio from sums over the runs. -/
theorem ratio_runs (k y : Fin 512 → Fin 512 → EReal) :
    Ideal.div ((∑ a : Fin 16, ∑ n : Fin 16384, k ⟨a.val * 32 + n.val / 512, by omega⟩ ⟨n.val % 512, by omega⟩ * y ⟨a.val * 32 + n.val / 512, by omega⟩ ⟨n.val % 512, by omega⟩) + 1)
      ((∑ a : Fin 16, ∑ n : Fin 16384, k ⟨a.val * 32 + n.val / 512, by omega⟩ ⟨n.val % 512, by omega⟩)
        + (∑ a : Fin 16, ∑ n : Fin 16384, y ⟨a.val * 32 + n.val / 512, by omega⟩ ⟨n.val % 512, by omega⟩)
        - (∑ a : Fin 16, ∑ n : Fin 16384, k ⟨a.val * 32 + n.val / 512, by omega⟩ ⟨n.val % 512, by omega⟩ * y ⟨a.val * 32 + n.val / 512, by omega⟩ ⟨n.val % 512, by omega⟩) + 1)
      = ratio k y := by
  have e : ∀ A A' B B' C C' : EReal, A = A' → B = B' → C = C' → Ideal.div (A + 1) (B + C - A + 1) = Ideal.div (A' + 1) (B' + C' - A' + 1) := by
    rintro A _ B _ C _ rfl rfl rfl
    rfl
  exact e _ _ _ _ _ _ (sum_pixels fun i j => k i j * y i j) (sum_pixels k) (sum_pixels y)

end Cert.Proof

namespace Cert.Proof.Thresh

open Cert.KernelIdeal Cert.KernelIdeal.Gen
open Idealize.ShloMosaic Idealize.ShloMosaic.TcCoe Idealize.ShloMosaic.Tactic
open Cert.Proof.Otsu

theorem runs_at (x : Vec Ideal S64x1x512x512 .f32) (b : Fin 64) (i : Fin 16) (j : Fin 16384) :
    shapeCast S64x16x16384 x shapeCasts_S64x1x512x512_S64x16x16384 (ix3 b i j)
      = x (ix4 b (0 : Fin 1) (⟨i.val * 32 + j.val / 512, by omega⟩ : Fin 512) (⟨j.val % 512, by omega⟩ : Fin 512)) := by
  pointwise

theorem groups_at (x : Vec Ideal S64x1x512x512 .f32) (g : Fin 4) (s : Fin 16) (n : Fin 262144) :
    shapeCast S4x16x262144 x shapeCasts_S64x1x512x512_S4x16x262144 (ix3 g s n)
      = x (ix4 (⟨g.val * 16 + s.val, by omega⟩ : Fin 64) (0 : Fin 1) (⟨n.val / 512, by omega⟩ : Fin 512) (⟨n.val % 512, by omega⟩ : Fin 512)) := by
  pointwise

theorem thFlat_at (A : Vec Ideal S4x1x128 .f32) (b : Fin 64) (l : Fin 128) : thFlat A (ix3 b (0 : Fin 1) l)
    = A (ix3 (⟨b.val / 16, by omega⟩ : Fin 4) (0 : Fin 1) (⟨b.val % 16, by omega⟩ : Fin 128)) := by
  unfold thFlat
  pointwise

theorem lane_at (v : FVec Ideal S1x128 .f32) (l : Fin 128) : shapeCast S1x1x128 v shapeCasts_S1x128_S1x1x128 (ix3 (0 : Fin 1) (0 : Fin 1) l) = v (ix2 (0 : Fin 1) l) := by
  pointwise

theorem meanOf_at (A : Vec Ideal S64x1x128 .f32) :
    meanOf A ix0 = Ideal.div (∑ b : Fin 64, A (ix3 b (0 : Fin 1) (0 : Fin 128))) (Ideal.ofBits FTy.f32 1115684864#32) := by
  unfold meanOf
  pointwise

/-- The overlap ratio of one sample, as the second launch computes it. -/
theorem iou_at (w : Vec Ideal S1x1x1 .f32) (x y : Vec Ideal S1x16x16384 .f32) (l : Fin 128) : k1_pay1 w x y (ix3 (0 : Fin 1) (0 : Fin 1) l)
    = Ideal.div ((∑ a : Fin 16, ∑ k : Fin 16384, (if w (ix3 (0 : Fin 1) (0 : Fin 1) (0 : Fin 1)) < Ideal.logistic (x (ix3 (0 : Fin 1) a k)) then 1 else 0) * y (ix3 (0 : Fin 1) a k)) + 1)
      ((∑ a : Fin 16, ∑ k : Fin 16384, if w (ix3 (0 : Fin 1) (0 : Fin 1) (0 : Fin 1)) < Ideal.logistic (x (ix3 (0 : Fin 1) a k)) then 1 else 0)
        + (∑ a : Fin 16, ∑ k : Fin 16384, y (ix3 (0 : Fin 1) a k))
        - (∑ a : Fin 16, ∑ k : Fin 16384, (if w (ix3 (0 : Fin 1) (0 : Fin 1) (0 : Fin 1)) < Ideal.logistic (x (ix3 (0 : Fin 1) a k)) then 1 else 0) * y (ix3 (0 : Fin 1) a k)) + 1) := by
  unfold_payloads
  pointwise

/-- The same, with the pixels in rows. -/
theorem iou_ratio (w : Vec Ideal S1x1x1 .f32) (x y : Vec Ideal S1x16x16384 .f32) (X Y : Fin 512 → Fin 512 → EReal) (t : EReal) (l : Fin 128)
    (hw : w (ix3 (0 : Fin 1) (0 : Fin 1) (0 : Fin 1)) = t)
    (hx : ∀ (a : Fin 16) (k : Fin 16384), x (ix3 (0 : Fin 1) a k) = X ⟨a.val * 32 + k.val / 512, by omega⟩ ⟨k.val % 512, by omega⟩)
    (hy : ∀ (a : Fin 16) (k : Fin 16384), y (ix3 (0 : Fin 1) a k) = Y ⟨a.val * 32 + k.val / 512, by omega⟩ ⟨k.val % 512, by omega⟩) :
    k1_pay1 w x y (ix3 (0 : Fin 1) (0 : Fin 1) l) = ratio (fun i j => if t < Ideal.logistic (X i j) then 1 else 0) Y := by
  refine (iou_at w x y l).trans (Eq.trans ?_ (ratio_runs _ Y))
  have e : ∀ (u : EReal) (A A' B B' : Fin 16 → Fin 16384 → EReal), u = t → A = A' → B = B' →
      Ideal.div ((∑ a : Fin 16, ∑ k : Fin 16384, (if u < Ideal.logistic (A a k) then 1 else 0) * B a k) + 1)
        ((∑ a : Fin 16, ∑ k : Fin 16384, if u < Ideal.logistic (A a k) then 1 else 0) + (∑ a : Fin 16, ∑ k : Fin 16384, B a k)
          - (∑ a : Fin 16, ∑ k : Fin 16384, (if u < Ideal.logistic (A a k) then 1 else 0) * B a k) + 1)
      = Ideal.div ((∑ a : Fin 16, ∑ k : Fin 16384, (if t < Ideal.logistic (A' a k) then 1 else 0) * B' a k) + 1)
        ((∑ a : Fin 16, ∑ k : Fin 16384, if t < Ideal.logistic (A' a k) then 1 else 0) + (∑ a : Fin 16, ∑ k : Fin 16384, B' a k)
          - (∑ a : Fin 16, ∑ k : Fin 16384, (if t < Ideal.logistic (A' a k) then 1 else 0) * B' a k) + 1) := by
    rintro _ A _ B _ rfl rfl rfl
    rfl
  exact e _ (fun a k => x (ix3 (0 : Fin 1) a k)) _ (fun a k => y (ix3 (0 : Fin 1) a k)) _ hw (funext fun a => funext fun k => hx a k)
    (funext fun a => funext fun k => hy a k)

variable (x y : Vec Ideal S64x1x512x512 .f32)

/-- A group's row holds its sample's pixels. -/
theorem ent_eq (b : Fin 64) : ent (grp (shapeCast S4x16x262144 x shapeCasts_S64x1x512x512_S4x16x262144) (⟨b.val / 16, by omega⟩ : Fin 4))
    (⟨b.val % 16, by omega⟩ : Fin 16) = pix x b := by
  funext n
  have e : grp (shapeCast S4x16x262144 x shapeCasts_S64x1x512x512_S4x16x262144) (⟨b.val / 16, by omega⟩ : Fin 4) (ix3 (0 : Fin 1) (⟨b.val % 16, by omega⟩ : Fin 16) n)
      = x (ix4 b (0 : Fin 1) (⟨n.val / 512, by omega⟩ : Fin 512) (⟨n.val % 512, by omega⟩ : Fin 512)) := by
    refine (groups_at x (⟨b.val / 16, by omega⟩ : Fin 4) (⟨b.val % 16, by omega⟩ : Fin 16) n).trans ?_
    have hb : (⟨b.val / 16 * 16 + b.val % 16, by omega⟩ : Fin 64) = b := Fin.ext (by show b.val / 16 * 16 + b.val % 16 = b.val; omega)
    rw [hb]
  exact congrArg sig e

/-- Sample `b`'s threshold reaches the second launch. -/
theorem threshold_at (b : Fin 64) (l : Fin 128) :
    thFlat (thArr (shapeCast S4x16x262144 x shapeCasts_S64x1x512x512_S4x16x262144)) (ix3 b (0 : Fin 1) l) = ((cut (pix x b) : ℝ) : EReal) := by
  rw [thFlat_at]
  refine (lane_at _ _).trans ?_
  refine (rowOf_at _ (⟨b.val % 16, by omega⟩ : Fin 16) (⟨b.val % 16, by omega⟩ : Fin 128) rfl 16 le_rfl).trans ?_
  rw [if_pos (show b.val % 16 < 16 by omega)]
  exact congrArg (fun q : Fin 262144 → ℝ => ((cut q : ℝ) : EReal)) (ent_eq x b)

/-- The kernel's result is the mean overlap ratio at Otsu's thresholds. -/
theorem kernelResult_at : kernelResult x y ix0 = meanRatio x y := by
  unfold kernelResult meanRatio
  rw [meanOf_at]
  refine congrArg (fun s : EReal => Ideal.div s (Ideal.ofBits FTy.f32 1115684864#32)) (Finset.sum_congr rfl fun b _ => ?_)
  exact iou_ratio _ _ _ (fun i j => x (ix4 b (0 : Fin 1) i j)) (fun i j => y (ix4 b (0 : Fin 1) i j)) _ 0 (threshold_at x b 0)
    (fun a k => runs_at x b a k) fun a k => runs_at y b a k

end Cert.Proof.Thresh
end
-- ==== Proof.RefEnds.lean ====
/- The reference's ends, spans, bins and bin centres of one row, as real numbers. -/
module
public import proofs.«01_k».proof.Proof.RefRun
public import proofs.«01_k».proof.Proof.ChunkRead
public import Idealize.ShloMosaic.Lib.Pointwise

@[expose] public section

set_option maxRecDepth 16384

noncomputable section

namespace Cert.Proof.Ref

open Cert.ReferenceIdeal Cert.ReferenceIdeal.Gen
open Idealize.ShloMosaic Idealize.ShloMosaic.TcCoe Idealize.ShloMosaic.Tactic
open Cert.Proof.Otsu

/-- Each row's greatest probability. -/
def hi (p : FVec Ideal S64x262144 .f32) : FVec Ideal S64x1 .f32 :=
  broadcastInDim S64x1 ![0] bcast_S64_S64x1_0 (Host.reduce FloatOps.maximumf p (constant S_ .f32 0xFF800000#32) reducesTo_S64x262144_S64_d1 h_S_)

/-- Every pixel's bin from its row's least entry and span. -/
def binsOf (p : FVec Ideal S64x262144 .f32) (l w : FVec Ideal S64x1 .f32) : IVec S64x262144 32 :=
  minsi (broadcastInDim S64x262144 ![] bcast_S_S64x262144 (constantI S_ 32 255#32))
    (maxsi (broadcastInDim S64x262144 ![] bcast_S_S64x262144 (constantI S_ 32 0#32))
      (fptosi 32 (mulf (subf p (broadcastInDim S64x262144 ![0, 1] bcast_S64x1_S64x262144_0_1 l))
        (broadcastInDim S64x262144 ![0, 1] bcast_S64x1_S64x262144_0_1 (perBin w)))))

theorem lo_fold (p : FVec Ideal S64x262144 .f32) (b : Fin 64) :
    lo p (ix2 b (0 : Fin 1)) = Finset.univ.fold min (Ideal.ofBits FTy.f32 2139095040#32) fun n : Fin 262144 => p (ix2 b n) := by
  unfold lo
  pointwise

theorem hi_fold (p : FVec Ideal S64x262144 .f32) (b : Fin 64) :
    hi p (ix2 b (0 : Fin 1)) = Finset.univ.fold max (Ideal.ofBits FTy.f32 4286578688#32) fun n : Fin 262144 => p (ix2 b n) := by
  unfold hi
  pointwise

theorem sub_read (x y : FVec Ideal S64x1 .f32) (i : S64x1.Idx) : subf x y i = x i - y i := rfl

theorem perBin_at (w : FVec Ideal S64x1 .f32) (b : Fin 64) (r : ℝ) (h : w (ix2 b (0 : Fin 1)) = (r : EReal)) :
    perBin w (ix2 b (0 : Fin 1)) = ((scale r : ℝ) : EReal) := by
  rw [← scale_coe, ← f32_256, ← h]
  unfold perBin
  pointwise

theorem binsOf_at (p : FVec Ideal S64x262144 .f32) (l w : FVec Ideal S64x1 .f32) (b : Fin 64) (n : Fin 262144) :
    binsOf p l w (ix2 b n) = IntOp.minsi (255#32) (IntOp.maxsi (0#32)
      (Ideal.fptosi 32 ((p (ix2 b n) - l (ix2 b (0 : Fin 1))) * perBin w (ix2 b (0 : Fin 1))))) := by
  unfold binsOf
  pointwise
  rfl

variable (p : FVec Ideal S64x262144 .f32) (b : Fin 64) (q : Fin 262144 → ℝ) (hp : ∀ n, p (ix2 b n) = ((q n : ℝ) : EReal))
include hp

/-- A row's least probability. -/
theorem lo_at : lo p (ix2 b (0 : Fin 1)) = ((lowest q : ℝ) : EReal) := by
  rw [lo_fold, f32_top, ← fold_min_coe]
  exact congrArg (fun f => Finset.univ.fold min (⊤ : EReal) f) (funext hp)

/-- A row's greatest probability. -/
theorem hi_at : hi p (ix2 b (0 : Fin 1)) = ((highest q : ℝ) : EReal) := by
  rw [hi_fold, f32_bot, ← fold_max_coe]
  exact congrArg (fun f => Finset.univ.fold max (⊥ : EReal) f) (funext hp)

/-- A row's span. -/
theorem wid_at : wid p (ix2 b (0 : Fin 1)) = ((highest q - lowest q : ℝ) : EReal) := by
  refine (sub_read (hi p) (lo p) _).trans ?_
  rw [hi_at p b q hp, lo_at p b q hp, EReal.coe_sub]

/-- A pixel's bin. -/
theorem bins_at (n : Fin 262144) : bins p (ix2 b n) = BitVec.ofNat 32 (bin q (lowest q) (scale (highest q - lowest q)) n) := by
  refine (binsOf_at p (lo p) (wid p) b n).trans ?_
  rw [perBin_at (wid p) b _ (wid_at p b q hp), lo_at p b q hp, hp, ← EReal.coe_sub, ← EReal.coe_mul]
  exact clip_trunc _ (mul_nonneg (sub_nonneg.mpr (lowest_le q n)) (scale_nonneg _))

omit hp in
/-- A bin's centre. -/
theorem mids_at (l w : FVec Ideal S64x1 .f32) (mn sp : ℝ) (hl : l (ix2 b (0 : Fin 1)) = (mn : EReal)) (hw : w (ix2 b (0 : Fin 1)) = (sp : EReal))
    (k : Fin 256) : mids l w (ix2 b k) = ((ctr mn sp k.val : ℝ) : EReal) := by
  have e : mids l w (ix2 b k) = l (ix2 b (0 : Fin 1)) + ((FloatOps.sitofp .f32 (BitVec.ofNat 32 k.val) : Ideal .f32) + Ideal.ofBits FTy.f32 1056964608#32)
      * Ideal.div (w (ix2 b (0 : Fin 1))) (Ideal.ofBits FTy.f32 1132462080#32) := by
    unfold mids
    pointwise
  rw [e, hl, hw, Cert.Proof.Thresh.sitofp_small .f32 k.val (by omega), f32_half, f32_256, div_real _ _ (by norm_num), ← EReal.coe_add, ← EReal.coe_mul,
    ← EReal.coe_add]
  rfl

end Cert.Proof.Ref
end
-- ==== Proof.RefCum.lean ====
/- The reference's running sums along a row, from the left and from the right, and the variance of every cut. -/
module
public import proofs.«01_k».proof.Proof.RefRun
public import proofs.«01_k».proof.Proof.ChunkRead
public import Idealize.ShloMosaic.Lib.Pointwise
public import Idealize.ShloMosaic.Lib.Routing.Ops

@[expose] public section

set_option maxRecDepth 16384

noncomputable section

namespace Cert.Proof.Ref

open Cert.ReferenceIdeal Cert.ReferenceIdeal.Gen
open Idealize.ShloMosaic Idealize.ShloMosaic.TcCoe Idealize.ShloMosaic.Tactic
open Cert.Proof.Otsu

/-- A left fold of additions of reals is the sum of their list. -/
theorem foldl_add_coe {ι : Type} (l : List ι) (g : ι → EReal) (f : ι → ℝ) (hg : ∀ a ∈ l, g a = ((f a : ℝ) : EReal)) (v : EReal) (z : ℝ)
    (hv : v = (z : EReal)) : l.foldl (fun r a => r + g a) v = ((z + (l.map f).sum : ℝ) : EReal) := by
  induction l generalizing v z with
  | nil => simpa using hv
  | cons a t ih =>
    rw [List.foldl_cons, ih (fun c hc => hg c (List.mem_cons_of_mem a hc)) (v + g a) (z + f a)
      (by rw [hv, hg a (List.mem_cons_self ..), EReal.coe_add]), List.map_cons, List.sum_cons, add_assoc]

/-- The window that ends at `j` holds the entries up to `j`. -/
theorem window_sum (f : ℕ → ℝ) (j : ℕ) (hj : j < 256) :
    ((List.range 256).map fun w => if 255 ≤ j + w then f (j + w - 255) else 0).sum = below f j := by
  have e : ∀ (g : ℕ → ℝ) (n : ℕ), ((List.range n).map g).sum = ∑ i ∈ Finset.range n, g i := fun g n => by
    induction n with
    | zero => rfl
    | succ n ih => rw [List.range_succ, List.map_append, List.sum_append, ih, Finset.sum_range_succ]; simp
  rw [e]
  unfold below
  rw [← Finset.sum_filter]
  refine Finset.sum_nbij' (fun w => j + w - 255) (fun i => i + 255 - j) ?_ ?_ ?_ ?_ ?_
  · intro w hw
    simp only [Finset.mem_filter, Finset.mem_range] at hw ⊢
    omega
  · intro i hi
    simp only [Finset.mem_filter, Finset.mem_range] at hi ⊢
    omega
  · intro w hw
    simp only [Finset.mem_filter, Finset.mem_range] at hw
    omega
  · intro i hi
    simp only [Finset.mem_range] at hi
    omega
  · intro w hw
    rfl

/-- A running sum at bin `j` is the sum over the bins up to `j`. -/
theorem cum_at (x : FVec Ideal S64x256 .f32) (b : Fin 64) (f : ℕ → ℝ) (hx : ∀ k : Fin 256, x (ix2 b k) = ((f k.val : ℝ) : EReal)) (j : Fin 256) :
    cum x (ix2 b j) = ((below f j.val : ℝ) : EReal) := by
  have hj := j.isLt
  have hv : broadcastInDim S_ ![] bcast_S_S_ (constant (F := Ideal) S_ .f32 0x00000000#32) (Shape.Idx.first h_S_) = ((0 : ℝ) : EReal) := by
    show Ideal.ofBits FTy.f32 0#32 = _
    simp [Ideal.ofBits, Ideal.ieee]
  show Host.reduceWindow (fun r s : EReal => r + s) ![1, 256] ![1, 1] ![0, 255] ![0, 0] x _ reduceWindows_S64x256_S64x256_w1s1p0_0_w256s1p255_0 _ (ix2 b j) = _
  unfold Host.reduceWindow
  refine (foldl_add_coe _ _ (fun n => if 255 ≤ j.val + n.val then f (j.val + n.val - 255) else 0) (fun n _ => ?_) _ 0 hv).trans ?_
  · have hw0 : ((Idealize.ShloMosaic.Routing.shape2 1 256).rowMajor.symm n 0).val = 0 := by rw [Idealize.ShloMosaic.Routing.symm2]; rfl
    have hw : ((Idealize.ShloMosaic.Routing.shape2 1 256).rowMajor.symm n 1).val = n.val := by rw [Idealize.ShloMosaic.Routing.symm2]; rfl
    have hn : n.val < 256 := (n.cast (Idealize.ShloMosaic.Routing.numel2 _)).isLt
    dsimp only
    split
    · next hin =>
      have h1 := hin 1
      change 255 ≤ j.val * 1 + ((Idealize.ShloMosaic.Routing.shape2 1 256).rowMajor.symm n 1).val ∧ j.val * 1 + ((Idealize.ShloMosaic.Routing.shape2 1 256).rowMajor.symm n 1).val - 255 < 256 at h1
      rw [hw] at h1
      rw [if_pos (by omega)]
      refine (congrArg x (funext fun a => Fin.ext ?_)).trans (hx ⟨j.val + n.val - 255, by omega⟩)
      match a with
      | ⟨0, _⟩ =>
        show b.val * 1 + ((Idealize.ShloMosaic.Routing.shape2 1 256).rowMajor.symm n 0).val - 0 = b.val
        rw [hw0]; omega
      | ⟨1, _⟩ =>
        show j.val * 1 + ((Idealize.ShloMosaic.Routing.shape2 1 256).rowMajor.symm n 1).val - 255 = j.val + n.val - 255
        rw [hw, Nat.mul_one]
    · next hin =>
      rw [if_neg fun hle => hin fun a => by
        match a with
        | ⟨0, _⟩ =>
          show 0 ≤ b.val * 1 + ((Idealize.ShloMosaic.Routing.shape2 1 256).rowMajor.symm n 0).val ∧ b.val * 1 + ((Idealize.ShloMosaic.Routing.shape2 1 256).rowMajor.symm n 0).val - 0 < 64
          rw [hw0]
          omega
        | ⟨1, _⟩ =>
          show 255 ≤ j.val * 1 + ((Idealize.ShloMosaic.Routing.shape2 1 256).rowMajor.symm n 1).val ∧ j.val * 1 + ((Idealize.ShloMosaic.Routing.shape2 1 256).rowMajor.symm n 1).val - 255 < 256
          rw [hw]
          omega]
      exact hv
  · rw [zero_add, Idealize.ShloMosaic.Routing.map_finRange_val _ (fun w => if 255 ≤ j.val + w then f (j.val + w - 255) else 0)]
    exact congrArg (fun r : ℝ => (r : EReal)) ((congrArg (fun M => ((List.range M).map fun w => if 255 ≤ j.val + w then f (j.val + w - 255) else 0).sum)
      (Idealize.ShloMosaic.Routing.numel2 256)).trans (window_sum f j.val hj))

/-- A row reversed. -/
theorem reverse_at (x : FVec Ideal S64x256 .f32) (b : Fin 64) (j : Fin 256) : Host.reverse [1] x (ix2 b j) = x (ix2 b j.rev) := by
  refine congrArg x (funext fun a => ?_)
  match a with
  | ⟨0, _⟩ => rfl
  | ⟨1, _⟩ => rfl

/-- The running sum of the reversed row, read from the right end. -/
theorem tail_at (x : FVec Ideal S64x256 .f32) (b : Fin 64) (f : ℕ → ℝ) (hx : ∀ k : Fin 256, x (ix2 b k) = ((f k.val : ℝ) : EReal))
    (n : ℕ) (hn : n < 255) : cum (Host.reverse [1] x) (ix2 b (⟨n + 1, by omega⟩ : Fin 256).rev) = ((above f n : ℝ) : EReal) := by
  rw [cum_at (Host.reverse [1] x) b (fun i => f (255 - i)) (fun k => by
    rw [reverse_at, hx]
    rw [show (k.rev).val = 255 - k.val by rw [Fin.val_rev]; omega])]
  refine congrArg (fun r : ℝ => (r : EReal)) ?_
  unfold below above
  have h : ((⟨n + 1, by omega⟩ : Fin 256).rev).val = 254 - n := by rw [Fin.val_rev]; show 256 - (n + 1 + 1) = _; omega
  rw [h]
  refine Finset.sum_nbij' (fun i => 255 - i) (fun i => 255 - i) ?_ ?_ ?_ ?_ ?_
  · intro i hi
    simp only [Finset.mem_Ico, Finset.mem_range] at hi ⊢
    omega
  · intro i hi
    simp only [Finset.mem_Ico, Finset.mem_range] at hi ⊢
    omega
  · intro i hi
    simp only [Finset.mem_range] at hi
    omega
  · intro i hi
    simp only [Finset.mem_Ico] at hi
    omega
  · intro i hi
    rfl

/-- The variance of every split from the four running sums. -/
def variOf (u v m w : FVec Ideal S64x256 .f32) : FVec Ideal S64x255 .f32 :=
  mulf
    (mulf (extractStridedSlice S64x255 ![0, 0] u slices_S64x256_S64x255_0_0)
      (extractStridedSlice S64x255 ![0, 1] (Host.reverse [1] v) slices_S64x256_S64x255_0_1))
    (mulf
      (subf (extractStridedSlice S64x255 ![0, 0] (Host.divf m u) slices_S64x256_S64x255_0_0)
        (extractStridedSlice S64x255 ![0, 1] (Host.reverse [1] (Host.divf w v)) slices_S64x256_S64x255_0_1))
      (subf (extractStridedSlice S64x255 ![0, 0] (Host.divf m u) slices_S64x256_S64x255_0_0)
        (extractStridedSlice S64x255 ![0, 1] (Host.reverse [1] (Host.divf w v)) slices_S64x256_S64x255_0_1)))

theorem left_at (x : FVec Ideal S64x256 .f32) (b : Fin 64) (n : Fin 255) :
    extractStridedSlice S64x255 ![0, 0] x slices_S64x256_S64x255_0_0 (ix2 b n) = x (ix2 b (⟨n.val, by omega⟩ : Fin 256)) := by
  pointwise

theorem right_at (x : FVec Ideal S64x256 .f32) (b : Fin 64) (n : Fin 255) :
    extractStridedSlice S64x255 ![0, 1] (Host.reverse [1] x) slices_S64x256_S64x255_0_1 (ix2 b n) = x (ix2 b (⟨n.val + 1, by omega⟩ : Fin 256).rev) := by
  refine Eq.trans ?_ (reverse_at x b (⟨n.val + 1, by omega⟩ : Fin 256))
  refine congrArg (Host.reverse [1] x) (funext fun a => Fin.ext ?_)
  match a with
  | ⟨0, _⟩ => show 0 + b.val = b.val; omega
  | ⟨1, _⟩ => show 1 + n.val = n.val + 1; omega

/-- The variance of the split after bin `n`, both classes holding pixels. -/
theorem vari_at (h c : FVec Ideal S64x256 .f32) (b : Fin 64) (f g : ℕ → ℝ) (hh : ∀ k : Fin 256, h (ix2 b k) = ((f k.val : ℝ) : EReal))
    (hc : ∀ k : Fin 256, c (ix2 b k) = ((g k.val : ℝ) : EReal)) (n : Fin 255) (h0 : below f n.val ≠ 0) (h1 : above f n.val ≠ 0) :
    vari h c (ix2 b n) = ((between f (fun k => f k * g k) n.val : ℝ) : EReal) := by
  have hm : ∀ k : Fin 256, mulf h c (ix2 b k) = (((fun k => f k * g k) k.val : ℝ) : EReal) := fun k => by
    show h (ix2 b k) * c (ix2 b k) = _
    rw [hh, hc, ← EReal.coe_mul]
  have e1 := cum_at h b f hh (⟨n.val, by omega⟩ : Fin 256)
  have e2 := tail_at h b f hh n.val n.isLt
  have e3 := cum_at (mulf h c) b (fun k => f k * g k) hm (⟨n.val, by omega⟩ : Fin 256)
  have e4 := tail_at (mulf h c) b (fun k => f k * g k) hm n.val n.isLt
  have key : ∀ (u v m w : FVec Ideal S64x256 .f32), variOf u v m w (ix2 b n)
      = (u (ix2 b (⟨n.val, by omega⟩ : Fin 256)) * v (ix2 b (⟨n.val + 1, by omega⟩ : Fin 256).rev))
        * ((Ideal.div (m (ix2 b (⟨n.val, by omega⟩ : Fin 256))) (u (ix2 b (⟨n.val, by omega⟩ : Fin 256)))
            - Ideal.div (w (ix2 b (⟨n.val + 1, by omega⟩ : Fin 256).rev)) (v (ix2 b (⟨n.val + 1, by omega⟩ : Fin 256).rev)))
          * (Ideal.div (m (ix2 b (⟨n.val, by omega⟩ : Fin 256))) (u (ix2 b (⟨n.val, by omega⟩ : Fin 256)))
            - Ideal.div (w (ix2 b (⟨n.val + 1, by omega⟩ : Fin 256).rev)) (v (ix2 b (⟨n.val + 1, by omega⟩ : Fin 256).rev)))) := by
    intro u v m w
    have a0 := left_at u b n
    have a1 := left_at (Host.divf m u) b n
    have a2 := right_at (Host.divf w v) b n
    have a3 := right_at v b n
    have e : ∀ (A A' B B' C C' D D' : EReal), A = A' → B = B' → C = C' → D = D' → A * B * ((C - D) * (C - D)) = A' * B' * ((C' - D') * (C' - D')) := by
      rintro A _ B _ C _ D _ rfl rfl rfl rfl
      rfl
    exact e _ _ _ _ _ _ _ _ a0 a3 a1 a2
  refine (key (cum h) (cum (Host.reverse [1] h)) (cum (mulf h c)) (cum (Host.reverse [1] (mulf h c)))).trans ?_
  rw [e1, e2, e3, e4]
  rw [div_real _ _ h0, div_real _ _ h1, ← EReal.coe_mul, ← EReal.coe_sub, ← EReal.coe_mul, ← EReal.coe_mul]
  refine congrArg (fun r : ℝ => (r : EReal)) ?_
  unfold between
  ring

end Cert.Proof.Ref
end
-- ==== Proof.RefBest.lean ====
/- The reference's arg-max along a row: the first place of the greatest variance. -/
module
public import proofs.«01_k».proof.Proof.RefRun
public import proofs.«01_k».proof.Proof.ChunkRead
public import Idealize.ShloMosaic.Lib.Pointwise

@[expose] public section

set_option maxRecDepth 16384

noncomputable section

namespace Cert.Proof.Ref

open Cert.ReferenceIdeal Cert.ReferenceIdeal.Gen
open Idealize.ShloMosaic Idealize.ShloMosaic.TcCoe Idealize.ShloMosaic.Tactic
open Cert.Proof.Otsu

/-- `r` is at least as good as `p`: a greater value, or the same value at no later place. -/
def Beats (r p : EReal × BitVec 32) : Prop := p.1 < r.1 ∨ (p.1 = r.1 ∧ r.2.toNat ≤ p.2.toNat)

theorem Beats.refl (r : EReal × BitVec 32) : Beats r r := Or.inr ⟨rfl, le_rfl⟩

theorem Beats.trans {r p s : EReal × BitVec 32} (h : Beats r p) (h' : Beats p s) : Beats r s := by
  rcases h with h | ⟨h, k⟩
  · rcases h' with h' | ⟨h', _⟩
    · exact Or.inl (h'.trans h)
    · exact Or.inl (h' ▸ h)
  · rcases h' with h' | ⟨h', k'⟩
    · exact Or.inl (h ▸ h')
    · exact Or.inr ⟨h'.trans h, k.trans k'⟩

/-- The reducer keeps the better of its two arguments. -/
theorem reducer_at (a b : EReal × BitVec 32) (ha : a.2.toNat < 255) (hb : b.2.toNat < 255) :
    (reducer_argmax_f32_i32 (F := Idealize.ShloMosaic.Ideal) a b : EReal × BitVec 32) = if b.1 < a.1 ∨ (a.1 = b.1 ∧ a.2.toNat < b.2.toNat) then a else b := by
  obtain ⟨v, i⟩ := a
  obtain ⟨w, j⟩ := b
  have hs : IntOp.cmpi .slt i j = BitVec.ofBool (decide (i.toNat < j.toNat)) := by
    show BitVec.ofBool (i.slt j) = _
    congr 1
    rw [BitVec.slt_eq_decide]
    have e : ∀ x : BitVec 32, x.toNat < 255 → x.toInt = (x.toNat : ℤ) := fun x hx => BitVec.toInt_eq_toNat_of_lt (by omega)
    rw [e i ha, e j hb]
    simp
  have hg : ∀ x y : EReal, (FloatOps.cmpf (F := Idealize.ShloMosaic.Ideal) (φ := .f32) .ogt x y) = BitVec.ofBool (decide (y < x)) := fun x y => rfl
  have hn : ∀ x y : EReal, (FloatOps.cmpf (F := Idealize.ShloMosaic.Ideal) (φ := .f32) .une x y) = BitVec.ofBool (decide (x ≠ y)) := fun x y => rfl
  have hq : ∀ x y : EReal, (FloatOps.cmpf (F := Idealize.ShloMosaic.Ideal) (φ := .f32) .oeq x y) = BitVec.ofBool (decide (x = y)) := fun x y => rfl
  unfold reducer_argmax_f32_i32
  dsimp only
  rw [hs, hg, hn, hq]
  by_cases h1 : w < v
  · have h4 : v ≠ w := h1.ne'
    simp [h1, h4, IntOp.ori, IntOp.andi, Scalar.select]
  · by_cases h2 : v = w
    · subst h2
      by_cases h3 : i.toNat < j.toNat
      · simp [h3, IntOp.ori, IntOp.andi, Scalar.select]
      · simp [h3, IntOp.ori, IntOp.andi, Scalar.select]
    · simp [h1, h2, IntOp.ori, IntOp.andi, Scalar.select]

/-- The fold of the reducer is one of the pairs and beats them all. -/
theorem fold_reducer (l : List (EReal × BitVec 32)) (hl : ∀ p ∈ l, p.2.toNat < 255) (r : EReal × BitVec 32) (hr : r.2.toNat < 255) :
    (l.foldl (reducer_argmax_f32_i32 (F := Idealize.ShloMosaic.Ideal)) r : EReal × BitVec 32) ∈ r :: l
      ∧ ∀ p ∈ r :: l, Beats (l.foldl (reducer_argmax_f32_i32 (F := Idealize.ShloMosaic.Ideal)) r) p := by
  induction l generalizing r with
  | nil =>
    refine ⟨List.mem_singleton.mpr rfl, fun p hp => ?_⟩
    rw [List.mem_singleton.mp hp]
    exact Beats.refl _
  | cons a t ih =>
    have ha := hl a (List.mem_cons_self ..)
    have hst := reducer_at r a hr ha
    have hmem : (reducer_argmax_f32_i32 (F := Idealize.ShloMosaic.Ideal) r a : EReal × BitVec 32) = r
        ∨ (reducer_argmax_f32_i32 (F := Idealize.ShloMosaic.Ideal) r a : EReal × BitVec 32) = a := by
      rw [hst]
      split
      · exact Or.inl rfl
      · exact Or.inr rfl
    have hbr : Beats (reducer_argmax_f32_i32 (F := Idealize.ShloMosaic.Ideal) r a) r ∧ Beats (reducer_argmax_f32_i32 (F := Idealize.ShloMosaic.Ideal) r a) a := by
      rw [hst]
      split
      · next h =>
        refine ⟨Beats.refl _, ?_⟩
        rcases h with h | ⟨h, h'⟩
        · exact Or.inl h
        · exact Or.inr ⟨h.symm, h'.le⟩
      · next h =>
        refine ⟨?_, Beats.refl _⟩
        push Not at h
        rcases h.1.lt_or_eq with h' | h'
        · exact Or.inl h'
        · exact Or.inr ⟨h', h.2 h'⟩
    have hlt : (reducer_argmax_f32_i32 (F := Idealize.ShloMosaic.Ideal) r a : EReal × BitVec 32).2.toNat < 255 := by
      rcases hmem with h | h
      · rw [h]; exact hr
      · rw [h]; exact ha
    have h := ih (fun p hp => hl p (List.mem_cons_of_mem a hp)) _ hlt
    rw [List.foldl_cons]
    refine ⟨?_, fun p hp => ?_⟩
    · rcases List.mem_cons.mp h.1 with h' | h'
      · rw [h']
        rcases hmem with h'' | h''
        · rw [h'']; exact List.mem_cons_self ..
        · rw [h'']; exact List.mem_cons_of_mem _ (List.mem_cons_self ..)
      · exact List.mem_cons_of_mem _ (List.mem_cons_of_mem _ h')
    · have h0 := h.2 _ (List.mem_cons_self ..)
      rcases List.mem_cons.mp hp with h' | h'
      · rw [h']; exact h0.trans hbr.1
      · rcases List.mem_cons.mp h' with h'' | h''
        · rw [h'']; exact h0.trans hbr.2
        · exact h.2 p (List.mem_cons_of_mem _ h'')

/-- The pairs of a row: its values and their places. -/
theorem fiber_mem (v : FVec Ideal S64x255 .f32) (b : Fin 64) (p : EReal × BitVec 32) :
    p ∈ (Host.argReduceFiber v (iotaInDim S64x255 32 1) reducesTo_S64x255_S64_d1 (ix1 b) : List (EReal × BitVec 32))
      ↔ ∃ n : Fin 255, p = (v (ix2 b n), BitVec.ofNat 32 n.val) := by
  have hj : ∀ j : S64x255.Idx, ∃ (r : Fin 64) (n : Fin 255), j = ix2 r n := fun j => ⟨j 0, j 1, by
    funext a
    match a with
    | ⟨0, _⟩ => rfl
    | ⟨1, _⟩ => rfl⟩
  have hd : ∀ (r : Fin 64) (n : Fin 255), reducesTo_S64x255_S64_d1.drop (ix2 r n) = ix1 r := fun r n => by
    funext a
    match a with
    | ⟨0, _⟩ => rfl
  unfold Host.argReduceFiber
  rw [List.mem_map]
  constructor
  · rintro ⟨n, hn, rfl⟩
    have h := of_decide_eq_true (List.mem_filter.mp hn).2
    obtain ⟨r, k, e⟩ := hj (S64x255.rowMajor.symm n)
    rw [e] at h ⊢
    have h0 : r = b := congrFun ((hd r k).symm.trans h) 0
    refine ⟨k, ?_⟩
    rw [h0]
    rfl
  · rintro ⟨n, rfl⟩
    refine ⟨S64x255.rowMajor (ix2 b n), List.mem_filter.mpr ⟨List.mem_finRange _, ?_⟩, ?_⟩
    · rw [Equiv.symm_apply_apply]
      exact decide_eq_true (hd b n)
    · rw [Equiv.symm_apply_apply]
      rfl

/-- The best split of a row of reals is the first place of its greatest value. -/
theorem best_at (v : FVec Ideal S64x255 .f32) (b : Fin 64) (f : ℕ → ℝ) (hv : ∀ n : Fin 255, v (ix2 b n) = ((f n.val : ℝ) : EReal))
    (k : ℕ) (hk : FirstMax f k) : best v (ix1 b) = BitVec.ofNat 32 k := by
  have e : best v (ix1 b) = ((Host.argReduceFiber v (iotaInDim S64x255 32 1) reducesTo_S64x255_S64_d1 (ix1 b)).foldl
      (reducer_argmax_f32_i32 (F := Idealize.ShloMosaic.Ideal)) (Ideal.ofBits FTy.f32 4286578688#32, 0#32)).2 := by
    unfold best
    rw [Ideal.argReduce_eq_reduce2, Host.reduce2_eq_foldl_fiber]
    rfl
  rw [e]
  have hF := fiber_mem v b
  generalize (Host.argReduceFiber v (iotaInDim S64x255 32 1) reducesTo_S64x255_S64_d1 (ix1 b) : List (EReal × BitVec 32)) = l at hF
  have hl : ∀ p ∈ l, p.2.toNat < 255 := fun p hp => by
    obtain ⟨n, rfl⟩ := (hF p).mp hp
    show (BitVec.ofNat 32 n.val).toNat < 255
    rw [BitVec.toNat_ofNat]
    omega
  have h := fold_reducer l hl (Ideal.ofBits FTy.f32 4286578688#32, 0#32) (by show (0#32).toNat < 255; decide)
  generalize (l.foldl (reducer_argmax_f32_i32 (F := Idealize.ShloMosaic.Ideal)) (Ideal.ofBits FTy.f32 4286578688#32, 0#32) : EReal × BitVec 32) = r at h
  have hbeat : ∀ n : Fin 255, Beats r (v (ix2 b n), BitVec.ofNat 32 n.val) := fun n => h.2 _ (List.mem_cons_of_mem _ ((hF _).mpr ⟨n, rfl⟩))
  rcases List.mem_cons.mp h.1 with h' | h'
  · exfalso
    have h0 := hbeat 0
    rw [h', f32_bot, hv] at h0
    rcases h0 with h0 | h0
    · exact absurd h0 (not_lt.mpr bot_le)
    · exact EReal.coe_ne_bot _ h0.1
  · obtain ⟨n, rfl⟩ := (hF r).mp h'
    have hn : FirstMax f n.val := by
      refine ⟨n.isLt, fun j hj => ?_, fun j hj => ?_⟩
      · have h0 := hbeat ⟨j, hj⟩
        rcases h0 with h0 | h0
        · have h1 : v (ix2 b ⟨j, hj⟩) < v (ix2 b n) := h0
          rw [hv, hv] at h1
          exact (EReal.coe_lt_coe_iff.mp h1).le
        · have h1 : v (ix2 b ⟨j, hj⟩) = v (ix2 b n) := h0.1
          rw [hv, hv] at h1
          exact (EReal.coe_eq_coe_iff.mp h1).le
      · have h0 := hbeat ⟨j, hj.trans n.isLt⟩
        rcases h0 with h0 | h0
        · have h1 : v (ix2 b ⟨j, hj.trans n.isLt⟩) < v (ix2 b n) := h0
          rw [hv, hv] at h1
          exact EReal.coe_lt_coe_iff.mp h1
        · have h1 : (BitVec.ofNat 32 n.val).toNat ≤ (BitVec.ofNat 32 j).toNat := h0.2
          rw [BitVec.toNat_ofNat, BitVec.toNat_ofNat] at h1
          omega
    show BitVec.ofNat 32 n.val = _
    rw [hn.unique hk]

end Cert.Proof.Ref
end
-- ==== Proof.RefHist.lean ====
/- The reference's histogram: every pixel's one lands in its own row, in its own bin. -/
module
public import proofs.«01_k».proof.Proof.RefRun
public import proofs.«01_k».proof.Proof.ChunkRead
public import Idealize.ShloMosaic.Lib.Pointwise
public import Idealize.ShloMosaic.Lib.Routing.OpsPair

@[expose] public section

set_option maxRecDepth 16384

noncomputable section

namespace Cert.Proof.Ref

open Cert.ReferenceIdeal Cert.ReferenceIdeal.Gen
open Idealize.ShloMosaic Idealize.ShloMosaic.TcCoe Idealize.ShloMosaic.Tactic
open Cert.Proof.Otsu

/-- A small word read signed is its number. -/
theorem toInt_small (n : ℕ) (h : n < 2147483648) : (BitVec.ofNat 32 n).toInt = (n : ℤ) := by
  rw [BitVec.toInt_eq_toNat_of_lt (by rw [BitVec.toNat_ofNat]; omega), BitVec.toNat_ofNat]
  omega

/-- Counting a negative number from the end leaves a small word alone. -/
theorem wrap_small (n : ℕ) (h : n < 2147483648) (a : BitVec 32) : Scalar.select (IntOp.cmpi .slt (BitVec.ofNat 32 n) (0#32)) a (BitVec.ofNat 32 n) = BitVec.ofNat 32 n :=
  Idealize.ShloMosaic.Routing.wrap_of_lt _ _ (by rw [BitVec.toNat_ofNat]; omega)

theorem place_row (x : IVec S64x262144 32) (r : Fin 64) (n : Fin 262144) :
    places x (ix3 r n (0 : Fin 2)) = Scalar.select (IntOp.cmpi .slt (BitVec.ofNat 32 r.val) (0#32)) (IntOp.addi (BitVec.ofNat 32 r.val) (64#32)) (BitVec.ofNat 32 r.val) := by
  unfold places
  pointwise

theorem place_bin (x : IVec S64x262144 32) (r : Fin 64) (n : Fin 262144) :
    places x (ix3 r n (1 : Fin 2)) = Scalar.select (IntOp.cmpi .slt (x (ix2 r n)) (0#32)) (IntOp.addi (x (ix2 r n)) (256#32)) (x (ix2 r n)) := by
  unfold places
  pointwise

/-- Where a pixel's one lands. -/
theorem lands (x : IVec S64x262144 32) (r b : Fin 64) (n : Fin 262144) (k : Fin 256) (m : ℕ) (hm : m < 256) (hx : x (ix2 r n) = BitVec.ofNat 32 m) :
    scatter_S64x256_S64x262144x2_S64x262144_n_01_01_2.resultIdx? (ix2 r n) (places x) = some (ix2 b k) ↔ r = b ∧ m = k.val := by
  refine (Idealize.ShloMosaic.Routing.scatter_lands2 scatter_S64x256_S64x262144x2_S64x262144_n_01_01_2 rfl rfl rfl (places x) r n b k).trans ?_
  have e0 : (places x (ix3 r n (0 : Fin 2))).toInt = (r.val : ℤ) := by
    rw [place_row, wrap_small _ (by omega), toInt_small _ (by omega)]
  have e1 : (places x (ix3 r n (1 : Fin 2))).toInt = (m : ℤ) := by
    rw [place_bin, hx, wrap_small _ (by omega), toInt_small _ (by omega)]
  constructor
  · intro h
    have h0 := e0.symm.trans h.1
    have h1 := e1.symm.trans h.2
    exact ⟨Fin.ext (by exact_mod_cast h0), by exact_mod_cast h1⟩
  · rintro ⟨h0, h1⟩
    subst h0
    exact ⟨e0, e1.trans (by exact_mod_cast h1)⟩

theorem hist_sum (x : IVec S64x262144 32) (i : S64x256.Idx) : hist (F := Idealize.ShloMosaic.Ideal) x i
    = 0 + ∑ j ∈ Finset.univ.filter (fun j => scatter_S64x256_S64x262144x2_S64x262144_n_01_01_2.resultIdx? j (places x) = some i), (1 : EReal) := by
  show Ideal.ofBits FTy.f32 0#32 + ∑ j ∈ Finset.univ.filter (fun j => scatter_S64x256_S64x262144x2_S64x262144_n_01_01_2.resultIdx? j (places x) = some i),
    Ideal.ofBits FTy.f32 1065353216#32 = _
  have h0 : Ideal.ofBits FTy.f32 0#32 = 0 := by simp [Ideal.ofBits, Ideal.ieee]
  have h1 : Ideal.ofBits FTy.f32 1065353216#32 = 1 := by simp [Ideal.ofBits, Ideal.ieee]; rw [← EReal.coe_mul]; norm_num
  rw [h0, h1]

/-- A row's histogram counts the row's pixels, when every bin is a number below 256. -/
theorem hist_count (x : IVec S64x262144 32) (m : Fin 64 → Fin 262144 → ℕ) (hm : ∀ r n, m r n < 256) (hx : ∀ r n, x (ix2 r n) = BitVec.ofNat 32 (m r n))
    (b : Fin 64) (k : Fin 256) : hist (F := Idealize.ShloMosaic.Ideal) x (ix2 b k) = (((∑ n, if m b n = k.val then 1 else 0 : ℝ)) : EReal) := by
  rw [hist_sum, zero_add, Cert.Proof.Thresh.coe_sum]
  have e : ∀ n, (((if m b n = k.val then 1 else 0 : ℝ)) : EReal) = if m b n = k.val then (1 : EReal) else 0 := fun n => by split <;> simp
  rw [Finset.sum_congr rfl fun n _ => e n, ← Finset.sum_filter]
  have hj : ∀ j : S64x262144.Idx, ∃ (r : Fin 64) (n : Fin 262144), j = ix2 r n := fun j => ⟨j 0, j 1, by
    funext a
    match a with
    | ⟨0, _⟩ => rfl
    | ⟨1, _⟩ => rfl⟩
  have hl : ∀ (r : Fin 64) (n : Fin 262144), scatter_S64x256_S64x262144x2_S64x262144_n_01_01_2.resultIdx? (ix2 r n) (places x) = some (ix2 b k)
      ↔ r = b ∧ m r n = k.val := fun r n => lands x r b n k (m r n) (hm r n) (hx r n)
  refine Finset.sum_bij' (fun (j : S64x262144.Idx) _ => (j 1 : Fin 262144)) (fun n _ => (ix2 b n : S64x262144.Idx)) ?_ ?_ ?_ ?_ ?_
  · intro j h
    obtain ⟨r, n, rfl⟩ := hj j
    have h' := (hl r n).mp (Finset.mem_filter.mp h).2
    refine Finset.mem_filter.mpr ⟨Finset.mem_univ _, ?_⟩
    rw [← h'.1]
    exact h'.2
  · intro n h
    exact Finset.mem_filter.mpr ⟨Finset.mem_univ _, (hl b n).mpr ⟨rfl, (Finset.mem_filter.mp h).2⟩⟩
  · intro j h
    obtain ⟨r, n, rfl⟩ := hj j
    have h' := (hl r n).mp (Finset.mem_filter.mp h).2
    show (ix2 b n : S64x262144.Idx) = ix2 r n
    rw [h'.1]
  · intro n h
    rfl
  · intro j h
    rfl

end Cert.Proof.Ref
end
-- ==== Proof.RefThr.lean ====
/- The reference's threshold of a row: the bin centre that its best split names. -/
module
public import proofs.«01_k».proof.Proof.RefHist

@[expose] public section

set_option maxRecDepth 16384

noncomputable section

namespace Cert.Proof.Ref

open Cert.ReferenceIdeal Cert.ReferenceIdeal.Gen
open Idealize.ShloMosaic Idealize.ShloMosaic.TcCoe Idealize.ShloMosaic.Tactic
open Cert.Proof.Otsu

/-- The gather reads, in each row, the place its index names, clamped to the row. -/
theorem gather_at (c : FVec Ideal S64x256 .f32) (idx : IVec S64x1x1 32) (b : Fin 64) :
    Host.gather gather_S64x256_S64x1x1_S64x1_n_1_0_0_1_2_11 c idx (ix2 b (0 : Fin 1))
      = c (ix2 b (⟨min (idx (ix3 b (0 : Fin 1) (0 : Fin 1))).toInt.toNat 255, by omega⟩ : Fin 256)) := by
  unfold Host.gather
  refine congrArg c (funext fun a => Fin.ext ?_)
  match a with
  | ⟨0, _⟩ =>
    show 0 + b.val + 0 = b.val
    omega
  | ⟨1, _⟩ =>
    have e : gather_S64x256_S64x1x1_S64x1_n_1_0_0_1_2_11.siIdx (ix2 b (0 : Fin 1)) ⟨0, by decide⟩ = ix3 b (0 : Fin 1) (0 : Fin 1) := by
      funext d
      match d with
      | ⟨0, _⟩ => rfl
      | ⟨1, _⟩ => rfl
      | ⟨2, _⟩ => rfl
    show min (idx (gather_S64x256_S64x1x1_S64x1_n_1_0_0_1_2_11.siIdx (ix2 b (0 : Fin 1)) ⟨0, by decide⟩)).toInt.toNat 255 + 0 + 0 = _
    rw [e]
    rfl

theorem flat_at (x : FVec Ideal S64x1 .f32) (b : Fin 64) : shapeCast S64 x shapeCasts_S64x1_S64 (ix1 b) = x (ix2 b (0 : Fin 1)) := by
  pointwise

/-- The place a row's index names. -/
theorem index_at (k : IVec S64 32) (b : Fin 64) :
    shapeCast S64x1x1 (select (cmpi .slt (bestCol k) (broadcastInDim S64x1 ![] bcast_S_S64x1 (constantI S_ 32 0#32)))
      (addi (bestCol k) (broadcastInDim S64x1 ![] bcast_S_S64x1 (constantI S_ 32 256#32))) (bestCol k)) shapeCasts_S64x1_S64x1x1 (ix3 b (0 : Fin 1) (0 : Fin 1))
    = Scalar.select (IntOp.cmpi .slt (k (ix1 b)) (0#32)) (IntOp.addi (k (ix1 b)) (256#32)) (k (ix1 b)) := by
  unfold bestCol
  pointwise

/-- Whatever a row's best split is, its threshold is one of its centres. -/
theorem thr_some (c : FVec Ideal S64x256 .f32) (k : IVec S64 32) (b : Fin 64) : ∃ n : Fin 256, thr c k (ix1 b) = c (ix2 b n) :=
  ⟨_, (flat_at _ b).trans (gather_at c _ b)⟩

/-- A row whose best split is `n` has the centre of bin `n` as its threshold. -/
theorem thr_at (c : FVec Ideal S64x256 .f32) (k : IVec S64 32) (b : Fin 64) (n : ℕ) (hn : n < 256) (hk : k (ix1 b) = BitVec.ofNat 32 n) :
    thr c k (ix1 b) = c (ix2 b (⟨n, hn⟩ : Fin 256)) := by
  refine (flat_at _ b).trans ((gather_at c _ b).trans ?_)
  refine congrArg (fun m : Fin 256 => c (ix2 b m)) (Fin.ext ?_)
  show min (BitVec.toInt _).toNat 255 = n
  rw [index_at, hk, wrap_small _ (by omega), toInt_small _ (by omega)]
  omega

end Cert.Proof.Ref
end
-- ==== Proof.RefRead.lean ====
/- The reference's result, spelt out: the mean over the samples of the smoothed overlap divided by the smoothed union, with every
   sample cut at its Otsu threshold. -/
module
public import proofs.«01_k».proof.Proof.RefEnds
public import proofs.«01_k».proof.Proof.RefCum
public import proofs.«01_k».proof.Proof.RefBest
public import proofs.«01_k».proof.Proof.RefThr
public import proofs.«01_k».proof.Proof.KernelRead

@[expose] public section

set_option maxRecDepth 16384

noncomputable section

namespace Cert.Proof.Ref

open Cert.ReferenceIdeal Cert.ReferenceIdeal.Gen
open Idealize.ShloMosaic Idealize.ShloMosaic.TcCoe Idealize.ShloMosaic.Tactic
open Cert.Proof.Otsu

/-! ## The thresholds -/

section Rows

variable (p : FVec Ideal S64x262144 .f32) (q : Fin 64 → Fin 262144 → ℝ) (hp : ∀ r n, p (ix2 r n) = ((q r n : ℝ) : EReal))
include hp

/-- A row's histogram. -/
theorem hist_at (b : Fin 64) (k : Fin 256) : hist (F := Idealize.ShloMosaic.Ideal) (bins p) (ix2 b k)
    = ((cnt (q b) (lowest (q b)) (scale (highest (q b) - lowest (q b))) k.val : ℝ) : EReal) :=
  hist_count (bins p) (fun r n => bin (q r) (lowest (q r)) (scale (highest (q r) - lowest (q r))) n)
    (fun r n => Nat.lt_succ_of_le (bin_le (q r) _ _ n)) (fun r n => bins_at p r (q r) (hp r) n) b k

/-- A row's threshold is Otsu's. -/
theorem row_threshold (b : Fin 64) :
    thr (mids (lo p) (wid p)) (best (vari (hist (bins p)) (mids (lo p) (wid p)))) (ix1 b) = ((cut (q b) : ℝ) : EReal) := by
  have hc : ∀ k : Fin 256, mids (lo p) (wid p) (ix2 b k) = ((ctr (lowest (q b)) (highest (q b) - lowest (q b)) k.val : ℝ) : EReal) :=
    mids_at b (lo p) (wid p) _ _ (lo_at p b (q b) (hp b)) (wid_at p b (q b) (hp b))
  have hh := hist_at p q hp b
  generalize mids (lo p) (wid p) = c at hc
  generalize hist (F := Idealize.ShloMosaic.Ideal) (bins p) = h at hh
  unfold cut threshold
  by_cases hs : 0 < highest (q b) - lowest (q b)
  · rw [if_pos hs]
    have hn : ∀ k, 0 ≤ cnt (q b) (lowest (q b)) (scale (highest (q b) - lowest (q b))) k := fun k => cnt_nonneg _ _ _ _
    have h0 : 0 < cnt (q b) (lowest (q b)) (scale (highest (q b) - lowest (q b))) 0 := by
      obtain ⟨n, e⟩ := exists_lowest (q b)
      exact cnt_first _ _ _ n e
    have h1 : 0 < cnt (q b) (lowest (q b)) (scale (highest (q b) - lowest (q b))) 255 := by
      obtain ⟨n, e⟩ := exists_highest (q b)
      exact cnt_last _ _ _ n (by rw [e]) hs
    have hk := pickBin_spec (cnt (q b) (lowest (q b)) (scale (highest (q b) - lowest (q b))))
      (fun k => cnt (q b) (lowest (q b)) (scale (highest (q b) - lowest (q b))) k * ctr (lowest (q b)) (highest (q b) - lowest (q b)) k)
    have hb := best_at (vari h c) b _ (fun n => vari_at h c b _ _ hh hc n (below_pos _ hn h0 n.val).ne' (above_pos _ hn h1 n.val n.isLt).ne') _ hk
    exact (thr_at c _ b _ (hk.1.trans (by norm_num)) hb).trans (hc _)
  · rw [if_neg hs]
    obtain ⟨n, e⟩ := thr_some c (best (vari h c)) b
    have hz : highest (q b) - lowest (q b) = 0 := le_antisymm (not_lt.mp hs) (lowest_le_highest (q b))
    rw [e, hc, hz]
    unfold ctr
    simp

end Rows

theorem rows_at (p : FVec Ideal S64x1x512x512 .f32) (b : Fin 64) (n : Fin 262144) :
    rows p (ix2 b n) = p (ix4 b (0 : Fin 1) (⟨n.val / 512, by omega⟩ : Fin 512) (⟨n.val % 512, by omega⟩ : Fin 512)) := by
  unfold rows
  pointwise

/-- The logistic function, spelt out, is the logistic function. -/
theorem prob_at (x : FVec Ideal S64x1x512x512 .f32) (i : S64x1x512x512.Idx) : prob x i = Ideal.logistic (x i) := by
  have h1 : Ideal.ofBits FTy.f32 1065353216#32 = 1 := by simp [Ideal.ofBits, Ideal.ieee]; rw [← EReal.coe_mul]; norm_num
  show Ideal.div (Ideal.ofBits FTy.f32 1065353216#32) (Ideal.ofBits FTy.f32 1065353216#32 + Ideal.exp (-(x i))) = _
  rw [h1]
  rfl

/-- Every sample's threshold is Otsu's. -/
theorem thresholds_at (x : FVec Ideal S64x1x512x512 .f32) (b : Fin 64) : thresholds x (ix1 b) = ((cut (pix x b) : ℝ) : EReal) :=
  row_threshold (rows (prob x)) (pix x) (fun r n => by
    rw [rows_at, prob_at, logistic_eq]
    rfl) b

/-! ## The score -/

/-- A sample's sum is the sum over its rows and columns. -/
theorem total_at (z : FVec Ideal S64x1x512x512 .f32) (b : Fin 64) :
    total z (ix2 b (0 : Fin 1)) = ∑ i : Fin 512, ∑ j : Fin 512, z (ix4 b (0 : Fin 1) i j) := by
  have h0 : Ideal.ofBits FTy.f32 0#32 = 0 := by simp [Ideal.ofBits, Ideal.ieee]
  show Ideal.ofBits FTy.f32 0#32 + ∑ i ∈ Finset.univ.filter (fun i => reducesTo_S64x1x512x512_S64x1_d3_2.drop i = ix2 b (0 : Fin 1)), z i = _
  rw [h0, zero_add, ← Fintype.sum_prod_type']
  have hj : ∀ i : S64x1x512x512.Idx, ∃ (r : Fin 64) (u v : Fin 512), i = ix4 r (0 : Fin 1) u v := fun i => ⟨i 0, i 2, i 3, by
    funext a
    match a with
    | ⟨0, _⟩ => rfl
    | ⟨1, _⟩ => exact Subsingleton.elim (α := Fin 1) _ _
    | ⟨2, _⟩ => rfl
    | ⟨3, _⟩ => rfl⟩
  have hd : ∀ (r : Fin 64) (u v : Fin 512), reducesTo_S64x1x512x512_S64x1_d3_2.drop (ix4 r (0 : Fin 1) u v) = ix2 r (0 : Fin 1) := fun r u v => by
    funext a
    match a with
    | ⟨0, _⟩ => rfl
    | ⟨1, _⟩ => rfl
  refine Finset.sum_bij' (fun (i : S64x1x512x512.Idx) _ => ((i 2 : Fin 512), (i 3 : Fin 512))) (fun n _ => (ix4 b (0 : Fin 1) n.1 n.2 : S64x1x512x512.Idx)) ?_ ?_ ?_ ?_ ?_
  · intro i h
    exact Finset.mem_univ _
  · intro n h
    exact Finset.mem_filter.mpr ⟨Finset.mem_univ _, hd b n.1 n.2⟩
  · intro i h
    obtain ⟨r, u, v, rfl⟩ := hj i
    have e : r = b := congrFun ((hd r u v).symm.trans (Finset.mem_filter.mp h).2) 0
    show (ix4 b (0 : Fin 1) u v : S64x1x512x512.Idx) = ix4 r (0 : Fin 1) u v
    rw [e]
  · intro n h
    rfl
  · intro i h
    obtain ⟨r, u, v, rfl⟩ := hj i
    have e : r = b := congrFun ((hd r u v).symm.trans (Finset.mem_filter.mp h).2) 0
    show z (ix4 r (0 : Fin 1) u v) = z (ix4 b (0 : Fin 1) u v)
    rw [e]

/-- The mean of the samples' ratios, from the three sums of every sample. -/
def meanOver (s u : FVec Ideal S64x1 .f32) : FVec Ideal S_ .f32 :=
  Host.divf (Host.reduceAdd
    (Host.divf (addf s (broadcastInDim S64x1 ![] bcast_S_S64x1 (constant S_ .f32 0x3F800000#32)))
      (addf (subf u s) (broadcastInDim S64x1 ![] bcast_S_S64x1 (constant S_ .f32 0x3F800000#32))))
    (constant S_ .f32 0x00000000#32) reducesTo_S64x1_S_d0_1 h_S_) (constant S_ .f32 0x42800000#32)

theorem meanOver_at (s u : FVec Ideal S64x1 .f32) : meanOver s u ix0
    = Ideal.div (∑ b : Fin 64, Ideal.div (s (ix2 b (0 : Fin 1)) + 1) (u (ix2 b (0 : Fin 1)) - s (ix2 b (0 : Fin 1)) + 1)) (Ideal.ofBits FTy.f32 1115684864#32) := by
  have e : meanOver s u ix0
    = Ideal.div (∑ b : Fin 64, ∑ z : Fin 1, Ideal.div (s (ix2 b z) + 1) (u (ix2 b z) - s (ix2 b z) + 1)) (Ideal.ofBits FTy.f32 1115684864#32) := by
    unfold meanOver
    pointwise
  rw [e]
  refine congrArg (fun t : EReal => Ideal.div t (Ideal.ofBits FTy.f32 1115684864#32)) (Finset.sum_congr rfl fun b _ => ?_)
  exact Fin.sum_univ_one _

/-- A pixel's mask. -/
theorem mask_at (p : FVec Ideal S64x1x512x512 .f32) (t : FVec Ideal S64 .f32) (b : Fin 64) (i j : Fin 512) :
    mask p t (ix4 b (0 : Fin 1) i j) = if t (ix1 b) < p (ix4 b (0 : Fin 1) i j) then (1 : EReal) else 0 := by
  have e : mask p t (ix4 b (0 : Fin 1) i j) = (FloatOps.uitofp .f32 (BitVec.ofBool (decide (t (ix1 b) < p (ix4 b (0 : Fin 1) i j)))) : Ideal .f32) := by
    unfold mask
    pointwise
  rw [e]
  show ((((BitVec.ofBool (decide (t (ix1 b) < p (ix4 b (0 : Fin 1) i j)))).toNat : ℕ) : ℝ) : EReal) = _
  by_cases h : t (ix1 b) < p (ix4 b (0 : Fin 1) i j)
  · simp [h]
  · simp [h]

/-- The reference's result is the mean overlap ratio at Otsu's thresholds. -/
theorem result_at (x y : FVec Ideal S64x1x512x512 .f32) : result x y ix0 = meanRatio x y := by
  refine (meanOver_at (total (mulf (mask (prob x) (thresholds x)) y)) (total (addf (mask (prob x) (thresholds x)) y))).trans ?_
  unfold meanRatio
  refine congrArg (fun s : EReal => Ideal.div s (Ideal.ofBits FTy.f32 1115684864#32)) (Finset.sum_congr rfl fun b _ => ?_)
  have hm : ∀ i j : Fin 512, mask (prob x) (thresholds x) (ix4 b (0 : Fin 1) i j) = above x ((cut (pix x b) : ℝ) : EReal) b i j := fun i j => by
    rw [mask_at, thresholds_at, prob_at]
    rfl
  generalize mask (prob x) (thresholds x) = k at hm
  have h1 : total (mulf k y) (ix2 b (0 : Fin 1))
      = ∑ i : Fin 512, ∑ j : Fin 512, above x ((cut (pix x b) : ℝ) : EReal) b i j * y (ix4 b (0 : Fin 1) i j) := by
    rw [total_at]
    refine Finset.sum_congr rfl fun i _ => Finset.sum_congr rfl fun j _ => ?_
    show k (ix4 b (0 : Fin 1) i j) * y (ix4 b (0 : Fin 1) i j) = _
    rw [hm]
  have h2 : total (addf k y) (ix2 b (0 : Fin 1))
      = (∑ i : Fin 512, ∑ j : Fin 512, above x ((cut (pix x b) : ℝ) : EReal) b i j) + ∑ i : Fin 512, ∑ j : Fin 512, y (ix4 b (0 : Fin 1) i j) := by
    rw [total_at, ← Finset.sum_add_distrib]
    refine Finset.sum_congr rfl fun i _ => ?_
    rw [← Finset.sum_add_distrib]
    refine Finset.sum_congr rfl fun j _ => ?_
    show k (ix4 b (0 : Fin 1) i j) + y (ix4 b (0 : Fin 1) i j) = _
    rw [hm]
  rw [h1, h2]
  rfl

end Cert.Proof.Ref
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.KernelRead
public import proofs.«01_k».proof.Proof.RefRead
public import Idealize.ShloMosaic.Adequacy
public import Idealize.ShloMosaic.Init

@[expose] public section

noncomputable section

namespace Cert.Proof

open Idealize.ShloMosaic Idealize.SL.Sem Cert.Kernel

/-- On equal arguments the kernel and the reference give the same mean overlap ratio. -/
theorem agree (x y : (⟨4, ![64, 1, 512, 512]⟩ : Shape).Idx → EReal) :
    (Ref.result (F := Ideal) x y : (⟨0, ![]⟩ : Shape).Idx → EReal) = Thresh.kernelResult (F := Ideal) x y := by
  funext i
  obtain rfl : i = ix0 := funext fun a => a.elim0
  exact (Ref.result_at x y).trans (Thresh.kernelResult_at x y).symm

/-- The claims of this certificate: the three frames, that the idealized kernel preserves the kernel, and that its result is the
    reference's on the extended reals. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.Proof.Ref.frame m ρ,
  trivial,
  fun m g m' g' _ hagree => ⟨fun c => Thresh.kernelResult (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Thresh.run m g,
    (θ_run Cert.ReferenceIdeal.defs _ _).mono (fun r h c => ⟨(h c).1.trans (by
        rw [(hagree c).1, (hagree c).2]
        exact agree _ _), (h c).2⟩) (Ref.run m' g')⟩⟩

end Cert.Proof

end
